-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v40)) (v5 : (c : Dev Cert.KernelIdeal.nD) → Buf (Elt Ideal) ((c.tc : Thread Cert.KernelIdeal.nD Cert.KernelIdeal.τ).loc Cert.KernelIdeal.main_v18)) (v6 : (c : Dev Cert.KernelIdeal.nD) → Buf (Elt Ideal) ((c.tc : Thread Cert.KernelIdeal.nD Cert.KernelIdeal.τ).loc Cert.KernelIdeal.main_v24)) (v7 : (c : Dev Cert.KernelIdeal.nD) → Buf (Elt Ideal) ((c.tc : Thread Cert.KernelIdeal.nD Cert.KernelIdeal.τ).loc Cert.KernelIdeal.main_v30)) (v8 : (c : Dev Cert.KernelIdeal.nD) → Buf (Elt Ideal) ((c.tc : Thread Cert.KernelIdeal.nD Cert.KernelIdeal.τ).loc Cert.KernelIdeal.main_v36)) (v9 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_v24) = v6 c
          ∧ r.2.mem ((c.tc : Thread Cert.KernelIdeal.nD Cert.KernelIdeal.τ).loc Cert.KernelIdeal.main_v30) = v7 c
          ∧ r.2.mem ((c.tc : Thread Cert.KernelIdeal.nD Cert.KernelIdeal.τ).loc Cert.KernelIdeal.main_v36) = v8 c
          ∧ r.2.mem ((c.tc : Thread Cert.KernelIdeal.nD Cert.KernelIdeal.τ).loc Cert.KernelIdeal.main_v42) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_v277) = v3 c
          ∧ r.2.mem ((c.tc : Thread Cert.ReferenceIdeal.nD Cert.ReferenceIdeal.τ).loc Cert.ReferenceIdeal.main_v348) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_v141) = v6 c
          ∧ r.2.mem ((c.tc : Thread Cert.ReferenceIdeal.nD Cert.ReferenceIdeal.τ).loc Cert.ReferenceIdeal.main_v212) = v7 c
          ∧ r.2.mem ((c.tc : Thread Cert.ReferenceIdeal.nD Cert.ReferenceIdeal.τ).loc Cert.ReferenceIdeal.main_v283) = v8 c
          ∧ r.2.mem ((c.tc : Thread Cert.ReferenceIdeal.nD Cert.ReferenceIdeal.τ).loc Cert.ReferenceIdeal.main_v354) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S2x256x8x8 : Shape := ⟨4, ![2, 256, 8, 8]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S3x3x256x256 : Shape := ⟨4, ![3, 3, 256, 256]⟩
abbrev S3x768x256 : Shape := ⟨3, ![3, 768, 256]⟩
abbrev S3x256 : Shape := ⟨2, ![3, 256]⟩
abbrev S12x256 : Shape := ⟨2, ![12, 256]⟩
abbrev S15x256 : Shape := ⟨2, ![15, 256]⟩
abbrev S256x15 : Shape := ⟨2, ![256, 15]⟩
abbrev S_ : Shape := ⟨0, ![]⟩
abbrev S256x16 : Shape := ⟨2, ![256, 16]⟩
abbrev S15 : Shape := ⟨1, ![15]⟩
abbrev S16 : Shape := ⟨1, ![16]⟩
abbrev S1x256 : Shape := ⟨2, ![1, 256]⟩
abbrev S1x16 : Shape := ⟨2, ![1, 16]⟩
abbrev S2x128x128x16 : Shape := ⟨4, ![2, 128, 128, 16]⟩
abbrev S1x256x128x128 : Shape := ⟨4, ![1, 256, 128, 128]⟩
abbrev S1x128x128x16 : Shape := ⟨4, ![1, 128, 128, 16]⟩
abbrev S16656x256 : Shape := ⟨2, ![16656, 256]⟩
abbrev S4352x768 : Shape := ⟨2, ![4352, 768]⟩
abbrev S136x256 : Shape := ⟨2, ![136, 256]⟩
abbrev S4352x1 : Shape := ⟨2, ![4352, 1]⟩
abbrev S1x256x32x128 : Shape := ⟨4, ![1, 256, 32, 128]⟩
abbrev S256x32x128 : Shape := ⟨3, ![256, 32, 128]⟩
abbrev S32x128x256 : Shape := ⟨3, ![32, 128, 256]⟩
abbrev S4096x256 : Shape := ⟨2, ![4096, 256]⟩
abbrev S4352x256 : Shape := ⟨2, ![4352, 256]⟩
abbrev S4096x768 : Shape := ⟨2, ![4096, 768]⟩
abbrev S1x768x256 : Shape := ⟨3, ![1, 768, 256]⟩
abbrev S768x256 : Shape := ⟨2, ![768, 256]⟩
abbrev S4096x16 : Shape := ⟨2, ![4096, 16]⟩
abbrev S32x128x16 : Shape := ⟨3, ![32, 128, 16]⟩
abbrev S1x32x128x16 : Shape := ⟨4, ![1, 32, 128, 16]⟩
abbrev S2x128x128x3 : Shape := ⟨4, ![2, 128, 128, 3]⟩
abbrev S2x3x128x128 : Shape := ⟨4, ![2, 3, 128, 128]⟩
abbrev S2x128x128x12 : Shape := ⟨4, ![2, 128, 128, 12]⟩
abbrev S2x12x128x128 : Shape := ⟨4, ![2, 12, 128, 128]⟩
abbrev S2x64x64x16 : Shape := ⟨4, ![2, 64, 64, 16]⟩
abbrev S1x256x64x64 : Shape := ⟨4, ![1, 256, 64, 64]⟩
abbrev S1x64x64x16 : Shape := ⟨4, ![1, 64, 64, 16]⟩
abbrev S4240x256 : Shape := ⟨2, ![4240, 256]⟩
abbrev S2176x768 : Shape := ⟨2, ![2176, 768]⟩
abbrev S72x256 : Shape := ⟨2, ![72, 256]⟩
abbrev S2176x1 : Shape := ⟨2, ![2176, 1]⟩
abbrev S1x256x32x64 : Shape := ⟨4, ![1, 256, 32, 64]⟩
abbrev S256x32x64 : Shape := ⟨3, ![256, 32, 64]⟩
abbrev S32x64x256 : Shape := ⟨3, ![32, 64, 256]⟩
abbrev S2048x256 : Shape := ⟨2, ![2048, 256]⟩
abbrev S2176x256 : Shape := ⟨2, ![2176, 256]⟩
abbrev S2048x768 : Shape := ⟨2, ![2048, 768]⟩
abbrev S2048x16 : Shape := ⟨2, ![2048, 16]⟩
abbrev S32x64x16 : Shape := ⟨3, ![32, 64, 16]⟩
abbrev S1x32x64x16 : Shape := ⟨4, ![1, 32, 64, 16]⟩
abbrev S2x64x64x3 : Shape := ⟨4, ![2, 64, 64, 3]⟩
abbrev S2x3x64x64 : Shape := ⟨4, ![2, 3, 64, 64]⟩
abbrev S2x64x64x12 : Shape := ⟨4, ![2, 64, 64, 12]⟩
abbrev S2x12x64x64 : Shape := ⟨4, ![2, 12, 64, 64]⟩
abbrev S2x32x32x16 : Shape := ⟨4, ![2, 32, 32, 16]⟩
abbrev S1x256x32x32 : Shape := ⟨4, ![1, 256, 32, 32]⟩
abbrev S1x32x32x16 : Shape := ⟨4, ![1, 32, 32, 16]⟩
abbrev S1104x256 : Shape := ⟨2, ![1104, 256]⟩
abbrev S1088x768 : Shape := ⟨2, ![1088, 768]⟩
abbrev S40x256 : Shape := ⟨2, ![40, 256]⟩
abbrev S1088x1 : Shape := ⟨2, ![1088, 1]⟩
abbrev S256x32x32 : Shape := ⟨3, ![256, 32, 32]⟩
abbrev S32x32x256 : Shape := ⟨3, ![32, 32, 256]⟩
abbrev S1024x256 : Shape := ⟨2, ![1024, 256]⟩
abbrev S1088x256 : Shape := ⟨2, ![1088, 256]⟩
abbrev S1024x768 : Shape := ⟨2, ![1024, 768]⟩
abbrev S1024x16 : Shape := ⟨2, ![1024, 16]⟩
abbrev S32x32x16 : Shape := ⟨3, ![32, 32, 16]⟩
abbrev S2x32x32x3 : Shape := ⟨4, ![2, 32, 32, 3]⟩
abbrev S2x3x32x32 : Shape := ⟨4, ![2, 3, 32, 32]⟩
abbrev S2x32x32x12 : Shape := ⟨4, ![2, 32, 32, 12]⟩
abbrev S2x12x32x32 : Shape := ⟨4, ![2, 12, 32, 32]⟩
abbrev S2x16x16x16 : Shape := ⟨4, ![2, 16, 16, 16]⟩
abbrev S1x256x16x16 : Shape := ⟨4, ![1, 256, 16, 16]⟩
abbrev S1x16x16x16 : Shape := ⟨4, ![1, 16, 16, 16]⟩
abbrev S304x256 : Shape := ⟨2, ![304, 256]⟩
abbrev S288x768 : Shape := ⟨2, ![288, 768]⟩
abbrev S24x256 : Shape := ⟨2, ![24, 256]⟩
abbrev S288x1 : Shape := ⟨2, ![288, 1]⟩
abbrev S256x16x16 : Shape := ⟨3, ![256, 16, 16]⟩
abbrev S16x16x256 : Shape := ⟨3, ![16, 16, 256]⟩
abbrev S256x256 : Shape := ⟨2, ![256, 256]⟩
abbrev S288x256 : Shape := ⟨2, ![288, 256]⟩
abbrev S256x768 : Shape := ⟨2, ![256, 768]⟩
abbrev S16x16x16 : Shape := ⟨3, ![16, 16, 16]⟩
abbrev S2x16x16x3 : Shape := ⟨4, ![2, 16, 16, 3]⟩
abbrev S2x3x16x16 : Shape := ⟨4, ![2, 3, 16, 16]⟩
abbrev S2x16x16x12 : Shape := ⟨4, ![2, 16, 16, 12]⟩
abbrev S2x12x16x16 : Shape := ⟨4, ![2, 12, 16, 16]⟩
abbrev S2x8x8x16 : Shape := ⟨4, ![2, 8, 8, 16]⟩
abbrev S1x256x8x8 : Shape := ⟨4, ![1, 256, 8, 8]⟩
abbrev S1x8x8x16 : Shape := ⟨4, ![1, 8, 8, 16]⟩
abbrev S96x256 : Shape := ⟨2, ![96, 256]⟩
abbrev S80x768 : Shape := ⟨2, ![80, 768]⟩
abbrev S16x256 : Shape := ⟨2, ![16, 256]⟩
abbrev S80x1 : Shape := ⟨2, ![80, 1]⟩
abbrev S256x8x8 : Shape := ⟨3, ![256, 8, 8]⟩
abbrev S8x8x256 : Shape := ⟨3, ![8, 8, 256]⟩
abbrev S64x256 : Shape := ⟨2, ![64, 256]⟩
abbrev S80x256 : Shape := ⟨2, ![80, 256]⟩
abbrev S64x768 : Shape := ⟨2, ![64, 768]⟩
abbrev S64x16 : Shape := ⟨2, ![64, 16]⟩
abbrev S8x8x16 : Shape := ⟨3, ![8, 8, 16]⟩
abbrev S2x8x8x3 : Shape := ⟨4, ![2, 8, 8, 3]⟩
abbrev S2x3x8x8 : Shape := ⟨4, ![2, 3, 8, 8]⟩
abbrev S2x8x8x12 : Shape := ⟨4, ![2, 8, 8, 12]⟩
abbrev S2x12x8x8 : Shape := ⟨4, ![2, 12, 8, 8]⟩

abbrev nBuf : Space → Nat
  | .hbm => 58
  | .vmem => 50
  | .smem => 0
  | _ => 0

abbrev bufTy : (tb : Table) → Fin (tcTables nBuf tb) → BufTy
  | .hbm, ⟨0, _⟩ => ⟨S2x256x128x128, .f32⟩
  | .hbm, ⟨1, _⟩ => ⟨S2x256x64x64, .f32⟩
  | .hbm, ⟨2, _⟩ => ⟨S2x256x32x32, .f32⟩
  | .hbm, ⟨3, _⟩ => ⟨S2x256x16x16, .f32⟩
  | .hbm, ⟨4, _⟩ => ⟨S2x256x8x8, .f32⟩
  | .hbm, ⟨5, _⟩ => ⟨S256x256x3x3, .f32⟩
  | .hbm, ⟨6, _⟩ => ⟨S256, .f32⟩
  | .hbm, ⟨7, _⟩ => ⟨S3x256x1x1, .f32⟩
  | .hbm, ⟨8, _⟩ => ⟨S3, .f32⟩
  | .hbm, ⟨9, _⟩ => ⟨S12x256x1x1, .f32⟩
  | .hbm, ⟨10, _⟩ => ⟨S12, .f32⟩
  | .hbm, ⟨11, _⟩ => ⟨S3x3x256x256, .f32⟩
  | .hbm, ⟨12, _⟩ => ⟨S3x768x256, .f32⟩
  | .hbm, ⟨13, _⟩ => ⟨S3x768x256, .bf16⟩
  | .hbm, ⟨14, _⟩ => ⟨S3x256, .f32⟩
  | .hbm, ⟨15, _⟩ => ⟨S12x256, .f32⟩
  | .hbm, ⟨16, _⟩ => ⟨S15x256, .f32⟩
  | .hbm, ⟨17, _⟩ => ⟨S256x15, .f32⟩
  | .hbm, ⟨18, _⟩ => ⟨S_, .i32⟩
  | .hbm, ⟨19, _⟩ => ⟨S_, .f32⟩
  | .hbm, ⟨20, _⟩ => ⟨S256x16, .f32⟩
  | .hbm, ⟨21, _⟩ => ⟨S256x16, .bf16⟩
  | .hbm, ⟨22, _⟩ => ⟨S15, .f32⟩
  | .hbm, ⟨23, _⟩ => ⟨S_, .i32⟩
  | .hbm, ⟨24, _⟩ => ⟨S_, .f32⟩
  | .hbm, ⟨25, _⟩ => ⟨S16, .f32⟩
  | .hbm, ⟨26, _⟩ => ⟨S1x256, .f32⟩
  | .hbm, ⟨27, _⟩ => ⟨S1x16, .f32⟩
  | .hbm, ⟨28, _⟩ => ⟨S2x256x128x128, .bf16⟩
  | .hbm, ⟨29, _⟩ => ⟨S2x128x128x16, .f32⟩
  | .hbm, ⟨30, _⟩ => ⟨S2x128x128x3, .f32⟩
  | .hbm, ⟨31, _⟩ => ⟨S2x3x128x128, .f32⟩
  | .hbm, ⟨32, _⟩ => ⟨S2x128x128x12, .f32⟩
  | .hbm, ⟨33, _⟩ => ⟨S2x12x128x128, .f32⟩
  | .hbm, ⟨34, _⟩ => ⟨S2x256x64x64, .bf16⟩
  | .hbm, ⟨35, _⟩ => ⟨S2x64x64x16, .f32⟩
  | .hbm, ⟨36, _⟩ => ⟨S2x64x64x3, .f32⟩
  | .hbm, ⟨37, _⟩ => ⟨S2x3x64x64, .f32⟩
  | .hbm, ⟨38, _⟩ => ⟨S2x64x64x12, .f32⟩
  | .hbm, ⟨39, _⟩ => ⟨S2x12x64x64, .f32⟩
  | .hbm, ⟨40, _⟩ => ⟨S2x256x32x32, .bf16⟩
  | .hbm, ⟨41, _⟩ => ⟨S2x32x32x16, .f32⟩
  | .hbm, ⟨42, _⟩ => ⟨S2x32x32x3, .f32⟩
  | .hbm, ⟨43, _⟩ => ⟨S2x3x32x32, .f32⟩
  | .hbm, ⟨44, _⟩ => ⟨S2x32x32x12, .f32⟩
  | .hbm, ⟨45, _⟩ => ⟨S2x12x32x32, .f32⟩
  | .hbm, ⟨46, _⟩ => ⟨S2x256x16x16, .bf16⟩
  | .hbm, ⟨47, _⟩ => ⟨S2x16x16x16, .f32⟩
  | .hbm, ⟨48, _⟩ => ⟨S2x16x16x3, .f32⟩
  | .hbm, ⟨49, _⟩ => ⟨S2x3x16x16, .f32⟩
  | .hbm, ⟨50, _⟩ => ⟨S2x16x16x12, .f32⟩
  | .hbm, ⟨51, _⟩ => ⟨S2x12x16x16, .f32⟩
  | .hbm, ⟨52, _⟩ => ⟨S2x256x8x8, .bf16⟩
  | .hbm, ⟨53, _⟩ => ⟨S2x8x8x16, .f32⟩
  | .hbm, ⟨54, _⟩ => ⟨S2x8x8x3, .f32⟩
  | .hbm, ⟨55, _⟩ => ⟨S2x3x8x8, .f32⟩
  | .hbm, ⟨56, _⟩ => ⟨S2x8x8x12, .f32⟩
  | .hbm, ⟨57, _⟩ => ⟨S2x12x8x8, .f32⟩
  | .local _ .vmem, ⟨0, _⟩ => ⟨S1x256x128x128, .bf16⟩
  | .local _ .vmem, ⟨1, _⟩ => ⟨S1x256x128x128, .bf16⟩
  | .local _ .vmem, ⟨2, _⟩ => ⟨S3x768x256, .bf16⟩
  | .local _ .vmem, ⟨3, _⟩ => ⟨S1x256, .f32⟩
  | .local _ .vmem, ⟨4, _⟩ => ⟨S256x16, .bf16⟩
  | .local _ .vmem, ⟨5, _⟩ => ⟨S1x16, .f32⟩
  | .local _ .vmem, ⟨6, _⟩ => ⟨S1x128x128x16, .f32⟩
  | .local _ .vmem, ⟨7, _⟩ => ⟨S1x128x128x16, .f32⟩
  | .local _ .vmem, ⟨8, _⟩ => ⟨S16656x256, .bf16⟩
  | .local _ .vmem, ⟨9, _⟩ => ⟨S4352x768, .bf16⟩
  | .local _ .vmem, ⟨10, _⟩ => ⟨S1x256x64x64, .bf16⟩
  | .local _ .vmem, ⟨11, _⟩ => ⟨S1x256x64x64, .bf16⟩
  | .local _ .vmem, ⟨12, _⟩ => ⟨S3x768x256, .bf16⟩
  | .local _ .vmem, ⟨13, _⟩ => ⟨S1x256, .f32⟩
  | .local _ .vmem, ⟨14, _⟩ => ⟨S256x16, .bf16⟩
  | .local _ .vmem, ⟨15, _⟩ => ⟨S1x16, .f32⟩
  | .local _ .vmem, ⟨16, _⟩ => ⟨S1x64x64x16, .f32⟩
  | .local _ .vmem, ⟨17, _⟩ => ⟨S1x64x64x16, .f32⟩
  | .local _ .vmem, ⟨18, _⟩ => ⟨S4240x256, .bf16⟩
  | .local _ .vmem, ⟨19, _⟩ => ⟨S2176x768, .bf16⟩
  | .local _ .vmem, ⟨20, _⟩ => ⟨S1x256x32x32, .bf16⟩
  | .local _ .vmem, ⟨21, _⟩ => ⟨S1x256x32x32, .bf16⟩
  | .local _ .vmem, ⟨22, _⟩ => ⟨S3x768x256, .bf16⟩
  | .local _ .vmem, ⟨23, _⟩ => ⟨S1x256, .f32⟩
  | .local _ .vmem, ⟨24, _⟩ => ⟨S256x16, .bf16⟩
  | .local _ .vmem, ⟨25, _⟩ => ⟨S1x16, .f32⟩
  | .local _ .vmem, ⟨26, _⟩ => ⟨S1x32x32x16, .f32⟩
  | .local _ .vmem, ⟨27, _⟩ => ⟨S1x32x32x16, .f32⟩
  | .local _ .vmem, ⟨28, _⟩ => ⟨S1104x256, .bf16⟩
  | .local _ .vmem, ⟨29, _⟩ => ⟨S1088x768, .bf16⟩
  | .local _ .vmem, ⟨30, _⟩ => ⟨S1x256x16x16, .bf16⟩
  | .local _ .vmem, ⟨31, _⟩ => ⟨S1x256x16x16, .bf16⟩
  | .local _ .vmem, ⟨32, _⟩ => ⟨S3x768x256, .bf16⟩
  | .local _ .vmem, ⟨33, _⟩ => ⟨S1x256, .f32⟩
  | .local _ .vmem, ⟨34, _⟩ => ⟨S256x16, .bf16⟩
  | .local _ .vmem, ⟨35, _⟩ => ⟨S1x16, .f32⟩
  | .local _ .vmem, ⟨36, _⟩ => ⟨S1x16x16x16, .f32⟩
  | .local _ .vmem, ⟨37, _⟩ => ⟨S1x16x16x16, .f32⟩
  | .local _ .vmem, ⟨38, _⟩ => ⟨S304x256, .bf16⟩
  | .local _ .vmem, ⟨39, _⟩ => ⟨S288x768, .bf16⟩
  | .local _ .vmem, ⟨40, _⟩ => ⟨S1x256x8x8, .bf16⟩
  | .local _ .vmem, ⟨41, _⟩ => ⟨S1x256x8x8, .bf16⟩
  | .local _ .vmem, ⟨42, _⟩ => ⟨S3x768x256, .bf16⟩
  | .local _ .vmem, ⟨43, _⟩ => ⟨S1x256, .f32⟩
  | .local _ .vmem, ⟨44, _⟩ => ⟨S256x16, .bf16⟩
  | .local _ .vmem, ⟨45, _⟩ => ⟨S1x16, .f32⟩
  | .local _ .vmem, ⟨46, _⟩ => ⟨S1x8x8x16, .f32⟩
  | .local _ .vmem, ⟨47, _⟩ => ⟨S1x8x8x16, .f32⟩
  | .local _ .vmem, ⟨48, _⟩ => ⟨S96x256, .bf16⟩
  | .local _ .vmem, ⟨49, _⟩ => ⟨S80x768, .bf16⟩
  | _, _ => ⟨S2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_scratch0 : Ref sig .tc := ⟨.vmem, 48, rfl⟩
abbrev cc4_scratch1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x768x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x64x64x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x256x32x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x768x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x32x32x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![2], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x256x16x16 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x768x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x16 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x16x16x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![2], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x256x8x8 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x768x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x16 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x8x8x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]
-- ==== ReferenceIdeal.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S2x256x8x8 : Shape := ⟨4, ![2, 256, 8, 8]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x130x130 : Shape := ⟨4, ![2, 256, 130, 130]⟩
abbrev S256x256x1x1 : Shape := ⟨4, ![256, 256, 1, 1]⟩
abbrev S256x256 : Shape := ⟨2, ![256, 256]⟩
abbrev S256x2x128x128 : Shape := ⟨4, ![256, 2, 128, 128]⟩
abbrev S1x256x1x1 : Shape := ⟨4, ![1, 256, 1, 1]⟩
abbrev S3x256 : Shape := ⟨2, ![3, 256]⟩
abbrev S3x2x128x128 : Shape := ⟨4, ![3, 2, 128, 128]⟩
abbrev S2x3x128x128 : Shape := ⟨4, ![2, 3, 128, 128]⟩
abbrev S1x3x1x1 : Shape := ⟨4, ![1, 3, 1, 1]⟩
abbrev S12x256 : Shape := ⟨2, ![12, 256]⟩
abbrev S12x2x128x128 : Shape := ⟨4, ![12, 2, 128, 128]⟩
abbrev S2x12x128x128 : Shape := ⟨4, ![2, 12, 128, 128]⟩
abbrev S1x12x1x1 : Shape := ⟨4, ![1, 12, 1, 1]⟩
abbrev S2x256x66x66 : Shape := ⟨4, ![2, 256, 66, 66]⟩
abbrev S256x2x64x64 : Shape := ⟨4, ![256, 2, 64, 64]⟩
abbrev S3x2x64x64 : Shape := ⟨4, ![3, 2, 64, 64]⟩
abbrev S2x3x64x64 : Shape := ⟨4, ![2, 3, 64, 64]⟩
abbrev S12x2x64x64 : Shape := ⟨4, ![12, 2, 64, 64]⟩
abbrev S2x12x64x64 : Shape := ⟨4, ![2, 12, 64, 64]⟩
abbrev S2x256x34x34 : Shape := ⟨4, ![2, 256, 34, 34]⟩
abbrev S256x2x32x32 : Shape := ⟨4, ![256, 2, 32, 32]⟩
abbrev S3x2x32x32 : Shape := ⟨4, ![3, 2, 32, 32]⟩
abbrev S2x3x32x32 : Shape := ⟨4, ![2, 3, 32, 32]⟩
abbrev S12x2x32x32 : Shape := ⟨4, ![12, 2, 32, 32]⟩
abbrev S2x12x32x32 : Shape := ⟨4, ![2, 12, 32, 32]⟩
abbrev S2x256x18x18 : Shape := ⟨4, ![2, 256, 18, 18]⟩
abbrev S256x2x16x16 : Shape := ⟨4, ![256, 2, 16, 16]⟩
abbrev S3x2x16x16 : Shape := ⟨4, ![3, 2, 16, 16]⟩
abbrev S2x3x16x16 : Shape := ⟨4, ![2, 3, 16, 16]⟩
abbrev S12x2x16x16 : Shape := ⟨4, ![12, 2, 16, 16]⟩
abbrev S2x12x16x16 : Shape := ⟨4, ![2, 12, 16, 16]⟩
abbrev S2x256x10x10 : Shape := ⟨4, ![2, 256, 10, 10]⟩
abbrev S256x2x8x8 : Shape := ⟨4, ![256, 2, 8, 8]⟩
abbrev S3x2x8x8 : Shape := ⟨4, ![3, 2, 8, 8]⟩
abbrev S2x3x8x8 : Shape := ⟨4, ![2, 3, 8, 8]⟩
abbrev S12x2x8x8 : Shape := ⟨4, ![12, 2, 8, 8]⟩
abbrev S2x12x8x8 : Shape := ⟨4, ![2, 12, 8, 8]⟩

abbrev nBuf : Space → Nat
  | .hbm => 381
  | .vmem => 0
  | .smem => 0
  | _ => 0

abbrev hbmTy0_0 (i : Nat) : BufTy := match i % 128 with
  | 0 => ⟨S2x256x128x128, .f32⟩
  | 1 => ⟨S2x256x64x64, .f32⟩
  | 2 => ⟨S2x256x32x32, .f32⟩
  | 3 => ⟨S2x256x16x16, .f32⟩
  | 4 => ⟨S2x256x8x8, .f32⟩
  | 5 => ⟨S256x256x3x3, .f32⟩
  | 6 => ⟨S256, .f32⟩
  | 7 => ⟨S3x256x1x1, .f32⟩
  | 8 => ⟨S3, .f32⟩
  | 9 => ⟨S12x256x1x1, .f32⟩
  | 10 => ⟨S12, .f32⟩
  | 11 => ⟨S_, .i32⟩
  | 12 => ⟨S_, .f32⟩
  | 13 => ⟨S2x256x130x130, .f32⟩
  | 14 => ⟨S2x256x128x128, .f32⟩
  | 15 => ⟨S256x256x1x1, .f32⟩
  | 16 => ⟨S256x256, .f32⟩
  | 17 => ⟨S256x2x128x128, .f32⟩
  | 18 => ⟨S2x256x128x128, .f32⟩
  | 19 => ⟨S2x256x128x128, .f32⟩
  | 20 => ⟨S256x256x1x1, .f32⟩
  | 21 => ⟨S256x256, .f32⟩
  | 22 => ⟨S256x2x128x128, .f32⟩
  | 23 => ⟨S2x256x128x128, .f32⟩
  | 24 => ⟨S2x256x128x128, .f32⟩
  | 25 => ⟨S2x256x128x128, .f32⟩
  | 26 => ⟨S256x256x1x1, .f32⟩
  | 27 => ⟨S256x256, .f32⟩
  | 28 => ⟨S256x2x128x128, .f32⟩
  | 29 => ⟨S2x256x128x128, .f32⟩
  | 30 => ⟨S2x256x128x128, .f32⟩
  | 31 => ⟨S2x256x128x128, .f32⟩
  | 32 => ⟨S256x256x1x1, .f32⟩
  | 33 => ⟨S256x256, .f32⟩
  | 34 => ⟨S256x2x128x128, .f32⟩
  | 35 => ⟨S2x256x128x128, .f32⟩
  | 36 => ⟨S2x256x128x128, .f32⟩
  | 37 => ⟨S2x256x128x128, .f32⟩
  | 38 => ⟨S256x256x1x1, .f32⟩
  | 39 => ⟨S256x256, .f32⟩
  | 40 => ⟨S256x2x128x128, .f32⟩
  | 41 => ⟨S2x256x128x128, .f32⟩
  | 42 => ⟨S2x256x128x128, .f32⟩
  | 43 => ⟨S2x256x128x128, .f32⟩
  | 44 => ⟨S256x256x1x1, .f32⟩
  | 45 => ⟨S256x256, .f32⟩
  | 46 => ⟨S256x2x128x128, .f32⟩
  | 47 => ⟨S2x256x128x128, .f32⟩
  | 48 => ⟨S2x256x128x128, .f32⟩
  | 49 => ⟨S2x256x128x128, .f32⟩
  | 50 => ⟨S256x256x1x1, .f32⟩
  | 51 => ⟨S256x256, .f32⟩
  | 52 => ⟨S256x2x128x128, .f32⟩
  | 53 => ⟨S2x256x128x128, .f32⟩
  | 54 => ⟨S2x256x128x128, .f32⟩
  | 55 => ⟨S2x256x128x128, .f32⟩
  | 56 => ⟨S256x256x1x1, .f32⟩
  | 57 => ⟨S256x256, .f32⟩
  | 58 => ⟨S256x2x128x128, .f32⟩
  | 59 => ⟨S2x256x128x128, .f32⟩
  | 60 => ⟨S2x256x128x128, .f32⟩
  | 61 => ⟨S2x256x128x128, .f32⟩
  | 62 => ⟨S256x256x1x1, .f32⟩
  | 63 => ⟨S256x256, .f32⟩
  | 64 => ⟨S256x2x128x128, .f32⟩
  | 65 => ⟨S2x256x128x128, .f32⟩
  | 66 => ⟨S2x256x128x128, .f32⟩
  | 67 => ⟨S1x256x1x1, .f32⟩
  | 68 => ⟨S2x256x128x128, .f32⟩
  | 69 => ⟨S2x256x128x128, .f32⟩
  | 70 => ⟨S_, .f32⟩
  | 71 => ⟨S2x256x128x128, .f32⟩
  | 72 => ⟨S2x256x128x128, .f32⟩
  | 73 => ⟨S3x256, .f32⟩
  | 74 => ⟨S3x2x128x128, .f32⟩
  | 75 => ⟨S2x3x128x128, .f32⟩
  | 76 => ⟨S1x3x1x1, .f32⟩
  | 77 => ⟨S2x3x128x128, .f32⟩
  | 78 => ⟨S2x3x128x128, .f32⟩
  | 79 => ⟨S12x256, .f32⟩
  | 80 => ⟨S12x2x128x128, .f32⟩
  | 81 => ⟨S2x12x128x128, .f32⟩
  | 82 => ⟨S1x12x1x1, .f32⟩
  | 83 => ⟨S2x12x128x128, .f32⟩
  | 84 => ⟨S2x12x128x128, .f32⟩
  | 85 => ⟨S_, .i32⟩
  | 86 => ⟨S_, .f32⟩
  | 87 => ⟨S2x256x66x66, .f32⟩
  | 88 => ⟨S2x256x64x64, .f32⟩
  | 89 => ⟨S256x256x1x1, .f32⟩
  | 90 => ⟨S256x256, .f32⟩
  | 91 => ⟨S256x2x64x64, .f32⟩
  | 92 => ⟨S2x256x64x64, .f32⟩
  | 93 => ⟨S2x256x64x64, .f32⟩
  | 94 => ⟨S256x256x1x1, .f32⟩
  | 95 => ⟨S256x256, .f32⟩
  | 96 => ⟨S256x2x64x64, .f32⟩
  | 97 => ⟨S2x256x64x64, .f32⟩
  | 98 => ⟨S2x256x64x64, .f32⟩
  | 99 => ⟨S2x256x64x64, .f32⟩
  | 100 => ⟨S256x256x1x1, .f32⟩
  | 101 => ⟨S256x256, .f32⟩
  | 102 => ⟨S256x2x64x64, .f32⟩
  | 103 => ⟨S2x256x64x64, .f32⟩
  | 104 => ⟨S2x256x64x64, .f32⟩
  | 105 => ⟨S2x256x64x64, .f32⟩
  | 106 => ⟨S256x256x1x1, .f32⟩
  | 107 => ⟨S256x256, .f32⟩
  | 108 => ⟨S256x2x64x64, .f32⟩
  | 109 => ⟨S2x256x64x64, .f32⟩
  | 110 => ⟨S2x256x64x64, .f32⟩
  | 111 => ⟨S2x256x64x64, .f32⟩
  | 112 => ⟨S256x256x1x1, .f32⟩
  | 113 => ⟨S256x256, .f32⟩
  | 114 => ⟨S256x2x64x64, .f32⟩
  | 115 => ⟨S2x256x64x64, .f32⟩
  | 116 => ⟨S2x256x64x64, .f32⟩
  | 117 => ⟨S2x256x64x64, .f32⟩
  | 118 => ⟨S256x256x1x1, .f32⟩
  | 119 => ⟨S256x256, .f32⟩
  | 120 => ⟨S256x2x64x64, .f32⟩
  | 121 => ⟨S2x256x64x64, .f32⟩
  | 122 => ⟨S2x256x64x64, .f32⟩
  | 123 => ⟨S2x256x64x64, .f32⟩
  | 124 => ⟨S256x256x1x1, .f32⟩
  | 125 => ⟨S256x256, .f32⟩
  | 126 => ⟨S256x2x64x64, .f32⟩
  | 127 => ⟨S2x256x64x64, .f32⟩
  | _ => ⟨S2x256x128x128, .f32⟩

abbrev hbmTy0_1 (i : Nat) : BufTy := match i % 128 with
  | 0 => ⟨S2x256x64x64, .f32⟩
  | 1 => ⟨S2x256x64x64, .f32⟩
  | 2 => ⟨S256x256x1x1, .f32⟩
  | 3 => ⟨S256x256, .f32⟩
  | 4 => ⟨S256x2x64x64, .f32⟩
  | 5 => ⟨S2x256x64x64, .f32⟩
  | 6 => ⟨S2x256x64x64, .f32⟩
  | 7 => ⟨S2x256x64x64, .f32⟩
  | 8 => ⟨S256x256x1x1, .f32⟩
  | 9 => ⟨S256x256, .f32⟩
  | 10 => ⟨S256x2x64x64, .f32⟩
  | 11 => ⟨S2x256x64x64, .f32⟩
  | 12 => ⟨S2x256x64x64, .f32⟩
  | 13 => ⟨S1x256x1x1, .f32⟩
  | 14 => ⟨S2x256x64x64, .f32⟩
  | 15 => ⟨S2x256x64x64, .f32⟩
  | 16 => ⟨S_, .f32⟩
  | 17 => ⟨S2x256x64x64, .f32⟩
  | 18 => ⟨S2x256x64x64, .f32⟩
  | 19 => ⟨S3x256, .f32⟩
  | 20 => ⟨S3x2x64x64, .f32⟩
  | 21 => ⟨S2x3x64x64, .f32⟩
  | 22 => ⟨S1x3x1x1, .f32⟩
  | 23 => ⟨S2x3x64x64, .f32⟩
  | 24 => ⟨S2x3x64x64, .f32⟩
  | 25 => ⟨S12x256, .f32⟩
  | 26 => ⟨S12x2x64x64, .f32⟩
  | 27 => ⟨S2x12x64x64, .f32⟩
  | 28 => ⟨S1x12x1x1, .f32⟩
  | 29 => ⟨S2x12x64x64, .f32⟩
  | 30 => ⟨S2x12x64x64, .f32⟩
  | 31 => ⟨S_, .i32⟩
  | 32 => ⟨S_, .f32⟩
  | 33 => ⟨S2x256x34x34, .f32⟩
  | 34 => ⟨S2x256x32x32, .f32⟩
  | 35 => ⟨S256x256x1x1, .f32⟩
  | 36 => ⟨S256x256, .f32⟩
  | 37 => ⟨S256x2x32x32, .f32⟩
  | 38 => ⟨S2x256x32x32, .f32⟩
  | 39 => ⟨S2x256x32x32, .f32⟩
  | 40 => ⟨S256x256x1x1, .f32⟩
  | 41 => ⟨S256x256, .f32⟩
  | 42 => ⟨S256x2x32x32, .f32⟩
  | 43 => ⟨S2x256x32x32, .f32⟩
  | 44 => ⟨S2x256x32x32, .f32⟩
  | 45 => ⟨S2x256x32x32, .f32⟩
  | 46 => ⟨S256x256x1x1, .f32⟩
  | 47 => ⟨S256x256, .f32⟩
  | 48 => ⟨S256x2x32x32, .f32⟩
  | 49 => ⟨S2x256x32x32, .f32⟩
  | 50 => ⟨S2x256x32x32, .f32⟩
  | 51 => ⟨S2x256x32x32, .f32⟩
  | 52 => ⟨S256x256x1x1, .f32⟩
  | 53 => ⟨S256x256, .f32⟩
  | 54 => ⟨S256x2x32x32, .f32⟩
  | 55 => ⟨S2x256x32x32, .f32⟩
  | 56 => ⟨S2x256x32x32, .f32⟩
  | 57 => ⟨S2x256x32x32, .f32⟩
  | 58 => ⟨S256x256x1x1, .f32⟩
  | 59 => ⟨S256x256, .f32⟩
  | 60 => ⟨S256x2x32x32, .f32⟩
  | 61 => ⟨S2x256x32x32, .f32⟩
  | 62 => ⟨S2x256x32x32, .f32⟩
  | 63 => ⟨S2x256x32x32, .f32⟩
  | 64 => ⟨S256x256x1x1, .f32⟩
  | 65 => ⟨S256x256, .f32⟩
  | 66 => ⟨S256x2x32x32, .f32⟩
  | 67 => ⟨S2x256x32x32, .f32⟩
  | 68 => ⟨S2x256x32x32, .f32⟩
  | 69 => ⟨S2x256x32x32, .f32⟩
  | 70 => ⟨S256x256x1x1, .f32⟩
  | 71 => ⟨S256x256, .f32⟩
  | 72 => ⟨S256x2x32x32, .f32⟩
  | 73 => ⟨S2x256x32x32, .f32⟩
  | 74 => ⟨S2x256x32x32, .f32⟩
  | 75 => ⟨S2x256x32x32, .f32⟩
  | 76 => ⟨S256x256x1x1, .f32⟩
  | 77 => ⟨S256x256, .f32⟩
  | 78 => ⟨S256x2x32x32, .f32⟩
  | 79 => ⟨S2x256x32x32, .f32⟩
  | 80 => ⟨S2x256x32x32, .f32⟩
  | 81 => ⟨S2x256x32x32, .f32⟩
  | 82 => ⟨S256x256x1x1, .f32⟩
  | 83 => ⟨S256x256, .f32⟩
  | 84 => ⟨S256x2x32x32, .f32⟩
  | 85 => ⟨S2x256x32x32, .f32⟩
  | 86 => ⟨S2x256x32x32, .f32⟩
  | 87 => ⟨S1x256x1x1, .f32⟩
  | 88 => ⟨S2x256x32x32, .f32⟩
  | 89 => ⟨S2x256x32x32, .f32⟩
  | 90 => ⟨S_, .f32⟩
  | 91 => ⟨S2x256x32x32, .f32⟩
  | 92 => ⟨S2x256x32x32, .f32⟩
  | 93 => ⟨S3x256, .f32⟩
  | 94 => ⟨S3x2x32x32, .f32⟩
  | 95 => ⟨S2x3x32x32, .f32⟩
  | 96 => ⟨S1x3x1x1, .f32⟩
  | 97 => ⟨S2x3x32x32, .f32⟩
  | 98 => ⟨S2x3x32x32, .f32⟩
  | 99 => ⟨S12x256, .f32⟩
  | 100 => ⟨S12x2x32x32, .f32⟩
  | 101 => ⟨S2x12x32x32, .f32⟩
  | 102 => ⟨S1x12x1x1, .f32⟩
  | 103 => ⟨S2x12x32x32, .f32⟩
  | 104 => ⟨S2x12x32x32, .f32⟩
  | 105 => ⟨S_, .i32⟩
  | 106 => ⟨S_, .f32⟩
  | 107 => ⟨S2x256x18x18, .f32⟩
  | 108 => ⟨S2x256x16x16, .f32⟩
  | 109 => ⟨S256x256x1x1, .f32⟩
  | 110 => ⟨S256x256, .f32⟩
  | 111 => ⟨S256x2x16x16, .f32⟩
  | 112 => ⟨S2x256x16x16, .f32⟩
  | 113 => ⟨S2x256x16x16, .f32⟩
  | 114 => ⟨S256x256x1x1, .f32⟩
  | 115 => ⟨S256x256, .f32⟩
  | 116 => ⟨S256x2x16x16, .f32⟩
  | 117 => ⟨S2x256x16x16, .f32⟩
  | 118 => ⟨S2x256x16x16, .f32⟩
  | 119 => ⟨S2x256x16x16, .f32⟩
  | 120 => ⟨S256x256x1x1, .f32⟩
  | 121 => ⟨S256x256, .f32⟩
  | 122 => ⟨S256x2x16x16, .f32⟩
  | 123 => ⟨S2x256x16x16, .f32⟩
  | 124 => ⟨S2x256x16x16, .f32⟩
  | 125 => ⟨S2x256x16x16, .f32⟩
  | 126 => ⟨S256x256x1x1, .f32⟩
  | 127 => ⟨S256x256, .f32⟩
  | _ => ⟨S2x256x128x128, .f32⟩

abbrev hbmTy0_2 (i : Nat) : BufTy := match i % 128 with
  | 0 => ⟨S256x2x16x16, .f32⟩
  | 1 => ⟨S2x256x16x16, .f32⟩
  | 2 => ⟨S2x256x16x16, .f32⟩
  | 3 => ⟨S2x256x16x16, .f32⟩
  | 4 => ⟨S256x256x1x1, .f32⟩
  | 5 => ⟨S256x256, .f32⟩
  | 6 => ⟨S256x2x16x16, .f32⟩
  | 7 => ⟨S2x256x16x16, .f32⟩
  | 8 => ⟨S2x256x16x16, .f32⟩
  | 9 => ⟨S2x256x16x16, .f32⟩
  | 10 => ⟨S256x256x1x1, .f32⟩
  | 11 => ⟨S256x256, .f32⟩
  | 12 => ⟨S256x2x16x16, .f32⟩
  | 13 => ⟨S2x256x16x16, .f32⟩
  | 14 => ⟨S2x256x16x16, .f32⟩
  | 15 => ⟨S2x256x16x16, .f32⟩
  | 16 => ⟨S256x256x1x1, .f32⟩
  | 17 => ⟨S256x256, .f32⟩
  | 18 => ⟨S256x2x16x16, .f32⟩
  | 19 => ⟨S2x256x16x16, .f32⟩
  | 20 => ⟨S2x256x16x16, .f32⟩
  | 21 => ⟨S2x256x16x16, .f32⟩
  | 22 => ⟨S256x256x1x1, .f32⟩
  | 23 => ⟨S256x256, .f32⟩
  | 24 => ⟨S256x2x16x16, .f32⟩
  | 25 => ⟨S2x256x16x16, .f32⟩
  | 26 => ⟨S2x256x16x16, .f32⟩
  | 27 => ⟨S2x256x16x16, .f32⟩
  | 28 => ⟨S256x256x1x1, .f32⟩
  | 29 => ⟨S256x256, .f32⟩
  | 30 => ⟨S256x2x16x16, .f32⟩
  | 31 => ⟨S2x256x16x16, .f32⟩
  | 32 => ⟨S2x256x16x16, .f32⟩
  | 33 => ⟨S1x256x1x1, .f32⟩
  | 34 => ⟨S2x256x16x16, .f32⟩
  | 35 => ⟨S2x256x16x16, .f32⟩
  | 36 => ⟨S_, .f32⟩
  | 37 => ⟨S2x256x16x16, .f32⟩
  | 38 => ⟨S2x256x16x16, .f32⟩
  | 39 => ⟨S3x256, .f32⟩
  | 40 => ⟨S3x2x16x16, .f32⟩
  | 41 => ⟨S2x3x16x16, .f32⟩
  | 42 => ⟨S1x3x1x1, .f32⟩
  | 43 => ⟨S2x3x16x16, .f32⟩
  | 44 => ⟨S2x3x16x16, .f32⟩
  | 45 => ⟨S12x256, .f32⟩
  | 46 => ⟨S12x2x16x16, .f32⟩
  | 47 => ⟨S2x12x16x16, .f32⟩
  | 48 => ⟨S1x12x1x1, .f32⟩
  | 49 => ⟨S2x12x16x16, .f32⟩
  | 50 => ⟨S2x12x16x16, .f32⟩
  | 51 => ⟨S_, .i32⟩
  | 52 => ⟨S_, .f32⟩
  | 53 => ⟨S2x256x10x10, .f32⟩
  | 54 => ⟨S2x256x8x8, .f32⟩
  | 55 => ⟨S256x256x1x1, .f32⟩
  | 56 => ⟨S256x256, .f32⟩
  | 57 => ⟨S256x2x8x8, .f32⟩
  | 58 => ⟨S2x256x8x8, .f32⟩
  | 59 => ⟨S2x256x8x8, .f32⟩
  | 60 => ⟨S256x256x1x1, .f32⟩
  | 61 => ⟨S256x256, .f32⟩
  | 62 => ⟨S256x2x8x8, .f32⟩
  | 63 => ⟨S2x256x8x8, .f32⟩
  | 64 => ⟨S2x256x8x8, .f32⟩
  | 65 => ⟨S2x256x8x8, .f32⟩
  | 66 => ⟨S256x256x1x1, .f32⟩
  | 67 => ⟨S256x256, .f32⟩
  | 68 => ⟨S256x2x8x8, .f32⟩
  | 69 => ⟨S2x256x8x8, .f32⟩
  | 70 => ⟨S2x256x8x8, .f32⟩
  | 71 => ⟨S2x256x8x8, .f32⟩
  | 72 => ⟨S256x256x1x1, .f32⟩
  | 73 => ⟨S256x256, .f32⟩
  | 74 => ⟨S256x2x8x8, .f32⟩
  | 75 => ⟨S2x256x8x8, .f32⟩
  | 76 => ⟨S2x256x8x8, .f32⟩
  | 77 => ⟨S2x256x8x8, .f32⟩
  | 78 => ⟨S256x256x1x1, .f32⟩
  | 79 => ⟨S256x256, .f32⟩
  | 80 => ⟨S256x2x8x8, .f32⟩
  | 81 => ⟨S2x256x8x8, .f32⟩
  | 82 => ⟨S2x256x8x8, .f32⟩
  | 83 => ⟨S2x256x8x8, .f32⟩
  | 84 => ⟨S256x256x1x1, .f32⟩
  | 85 => ⟨S256x256, .f32⟩
  | 86 => ⟨S256x2x8x8, .f32⟩
  | 87 => ⟨S2x256x8x8, .f32⟩
  | 88 => ⟨S2x256x8x8, .f32⟩
  | 89 => ⟨S2x256x8x8, .f32⟩
  | 90 => ⟨S256x256x1x1, .f32⟩
  | 91 => ⟨S256x256, .f32⟩
  | 92 => ⟨S256x2x8x8, .f32⟩
  | 93 => ⟨S2x256x8x8, .f32⟩
  | 94 => ⟨S2x256x8x8, .f32⟩
  | 95 => ⟨S2x256x8x8, .f32⟩
  | 96 => ⟨S256x256x1x1, .f32⟩
  | 97 => ⟨S256x256, .f32⟩
  | 98 => ⟨S256x2x8x8, .f32⟩
  | 99 => ⟨S2x256x8x8, .f32⟩
  | 100 => ⟨S2x256x8x8, .f32⟩
  | 101 => ⟨S2x256x8x8, .f32⟩
  | 102 => ⟨S256x256x1x1, .f32⟩
  | 103 => ⟨S256x256, .f32⟩
  | 104 => ⟨S256x2x8x8, .f32⟩
  | 105 => ⟨S2x256x8x8, .f32⟩
  | 106 => ⟨S2x256x8x8, .f32⟩
  | 107 => ⟨S1x256x1x1, .f32⟩
  | 108 => ⟨S2x256x8x8, .f32⟩
  | 109 => ⟨S2x256x8x8, .f32⟩
  | 110 => ⟨S_, .f32⟩
  | 111 => ⟨S2x256x8x8, .f32⟩
  | 112 => ⟨S2x256x8x8, .f32⟩
  | 113 => ⟨S3x256, .f32⟩
  | 114 => ⟨S3x2x8x8, .f32⟩
  | 115 => ⟨S2x3x8x8, .f32⟩
  | 116 => ⟨S1x3x1x1, .f32⟩
  | 117 => ⟨S2x3x8x8, .f32⟩
  | 118 => ⟨S2x3x8x8, .f32⟩
  | 119 => ⟨S12x256, .f32⟩
  | 120 => ⟨S12x2x8x8, .f32⟩
  | 121 => ⟨S2x12x8x8, .f32⟩
  | 122 => ⟨S1x12x1x1, .f32⟩
  | 123 => ⟨S2x12x8x8, .f32⟩
  | 124 => ⟨S2x12x8x8, .f32⟩
  | _ => ⟨S2x256x128x128, .f32⟩

abbrev hbmTy (i : Nat) : BufTy := match i / 128 with
  | 0 => hbmTy0_0 i
  | 1 => hbmTy0_1 i
  | 2 => hbmTy0_2 i
  | _ => ⟨S2x256x128x128, .f32⟩

abbrev bufTy : (tb : Table) → Fin (tcTables nBuf tb) → BufTy
  | .hbm, ⟨i, _⟩ => hbmTy i
  | _, _ => ⟨S2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_c_0 : Ref sig .tc := ⟨.hbm, 85, rfl⟩
abbrev main_call1_v0 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_cst_1 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_c_2 : Ref sig .tc := ⟨.hbm, 159, rfl⟩
abbrev main_call2_v0 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_cst_3 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_c_4 : Ref sig .tc := ⟨.hbm, 233, rfl⟩
abbrev main_call3_v0 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_cst_5 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_c_6 : Ref sig .tc := ⟨.hbm, 307, rfl⟩
abbrev main_call4_v0 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_v340 : Ref sig .tc := ⟨.hbm, 365, rfl⟩
abbrev main_cst_7 : Ref sig .tc := ⟨.hbm, 366, rfl⟩
abbrev main_v341 : Ref sig .tc := ⟨.hbm, 367, rfl⟩
abbrev main_v342 : Ref sig .tc := ⟨.hbm, 368, rfl⟩
abbrev main_v343 : Ref sig .tc := ⟨.hbm, 369, rfl⟩
abbrev main_v344 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_v348 : Ref sig .tc := ⟨.hbm, 374, rfl⟩
abbrev main_v349 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_v354 : Ref sig .tc := ⟨.hbm, 380, rfl⟩

abbrev nD : Nat := 1
abbrev τ : Topo := Topo.v7x

variable {F : FTy → Type} [FloatOps F]
-- ==== Proof.Run.lean ====
/- What the kernel program's memory holds when it has run: every buffer at the contents followed through the host operations and the five launches. -/
module

public import proofs.«01_k».proof.Proof.Gen.KernelIdeal.Frame
public import Idealize.ShloMosaic.PureOps.Ideal.Laws

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- Every run ends, and every buffer of the program then holds what the last boundary's contents say. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W15 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h _ => h)

end Cert.KernelIdeal.Run

end
-- ==== Proof.Spec.lean ====
/- The mathematics of one pyramid level, in plain sums over the extended reals: an image with a border of zeros, the 3×3 convolution with bias and the
   positive part over it, and one output channel of the 1×1 convolution that follows. Both programs are read at an index down to these functions. -/
module

public import Idealize.ShloMosaic.Lib.Pointwise

@[expose] public section

set_option maxRecDepth 16384

noncomputable section

namespace Cert.Spec

open Idealize.ShloMosaic

variable {H W : ℕ}

/-- One image of 256 channels inside a border of zeros one pixel wide: row `i` and column `j` count from the border, so pixel `(0, 0)` of the image lies at
    `(1, 1)`; everything outside the image is zero. -/
def px (f : Fin 256 → Fin H → Fin W → EReal) (k : Fin 256) (i j : ℕ) : EReal :=
  if h : (1 ≤ i ∧ i - 1 < H) ∧ (1 ≤ j ∧ j - 1 < W) then f k ⟨i - 1, h.1.2⟩ ⟨j - 1, h.2.2⟩ else 0

/-- Channel `co` of the hidden map at pixel `(i, j)`: the 3×3 convolution of the bordered image, plus the bias, cut at zero. -/
def hid (f : Fin 256 → Fin H → Fin W → EReal) (w : Fin 256 → Fin 256 → Fin 3 → Fin 3 → EReal) (b : Fin 256 → EReal) (co : Fin 256) (i j : ℕ) : EReal :=
  max ((∑ dy : Fin 3, ∑ dx : Fin 3, ∑ k : Fin 256, px f k (i + dy) (j + dx) * w co k dy dx) + b co) 0

/-- One channel of the 1×1 convolution of the hidden map at pixel `(i, j)`, with weights `u` and bias `c`. -/
def head (f : Fin 256 → Fin H → Fin W → EReal) (w : Fin 256 → Fin 256 → Fin 3 → Fin 3 → EReal) (b : Fin 256 → EReal)
    (u : Fin 256 → EReal) (c : EReal) (i j : ℕ) : EReal :=
  (∑ co : Fin 256, hid f w b co i j * u co) + c

/-- Inside the border the bordered image is the image. -/
theorem px_inside (f : Fin 256 → Fin H → Fin W → EReal) (k : Fin 256) (i : Fin H) (j : Fin W) : px f k (i + 1) (j + 1) = f k i j := by
  simp [px]

/-- The left border is zero. -/
theorem px_left (f : Fin 256 → Fin H → Fin W → EReal) (k : Fin 256) (i : ℕ) : px f k i 0 = 0 := by
  simp [px]

/-- What lies at or beyond the right border is zero. -/
theorem px_right (f : Fin 256 → Fin H → Fin W → EReal) (k : Fin 256) (i j : ℕ) (h : W < j) : px f k i j = 0 :=
  dif_neg fun hh => by have := hh.2.2; omega

/-- What lies above the image is zero. -/
theorem px_top (f : Fin 256 → Fin H → Fin W → EReal) (k : Fin 256) (j : ℕ) : px f k 0 j = 0 := by
  simp [px]

/-- What lies below the image is zero. -/
theorem px_bottom (f : Fin 256 → Fin H → Fin W → EReal) (k : Fin 256) (i j : ℕ) (h : H < i) : px f k i j = 0 :=
  dif_neg fun hh => by have := hh.1.2; omega

/-- Two descriptions of one level give one value when image, weights and biases agree. -/
theorem head_congr {f f' : Fin 256 → Fin H → Fin W → EReal} {w w' : Fin 256 → Fin 256 → Fin 3 → Fin 3 → EReal} {b b' : Fin 256 → EReal}
    {u u' : Fin 256 → EReal} {c c' : EReal} (hf : ∀ k i j, f k i j = f' k i j) (hw : ∀ co k dy dx, w co k dy dx = w' co k dy dx)
    (hb : ∀ co, b co = b' co) (hu : ∀ co, u co = u' co) (hc : c = c') (i j : ℕ) : head f w b u c i j = head f' w' b' u' c' i j := by
  obtain rfl : f = f' := funext fun k => funext fun i => funext fun j => hf k i j
  obtain rfl : w = w' := funext fun co => funext fun k => funext fun dy => funext fun dx => hw co k dy dx
  obtain rfl : b = b' := funext hb
  obtain rfl : u = u' := funext hu
  rw [hc]

end Cert.Spec

end
-- ==== Proof.Tiles.lean ====
/- What the kernel keeps in its two scratch buffers, and the arithmetic that turns its three products over 768 columns back into the 3×3 convolution. -/
module

public import proofs.«01_k».proof.Proof.Spec
public import Idealize.ShloMosaic.Lib.Pipeline.ReadBack
public import Idealize.ShloMosaic.Lib.WordCmp

@[expose] public section

set_option maxRecDepth 16384

noncomputable section

namespace Cert.Spec

open Idealize.ShloMosaic

variable {H W : ℕ}

/-- The flat copy of one image, channels along the columns: eight rows of zeros, one image row of zeros, the image row after row, zeros below. Row `ρ`, column `k`. -/
def flat (f : Fin 256 → Fin H → Fin W → EReal) (ρ : ℕ) (k : Fin 256) : EReal :=
  if ρ < 8 then 0 else px f k ((ρ - 8) / W) ((ρ - 8) % W + 1)

/-- The widened tile of a chunk that starts at image row `base`: row `r` is a pixel of the rows from `base - 1`, and its 768 columns are the 256 channels of
    the pixel to the left, of the pixel itself and of the pixel to the right, with zeros beyond the image. -/
def wide (f : Fin 256 → Fin H → Fin W → EReal) (base r : ℕ) (x : Fin 768) : EReal :=
  px f ⟨x.val % 256, Nat.mod_lt _ (by decide)⟩ (base + r / W) (r % W + x.val / 256)

/-- A 3×3 weight read through the flattened column index: column `x` is tap `x / 256` of channel `x % 256`. -/
def tap (w : Fin 256 → Fin 256 → Fin 3 → Fin 3 → EReal) (dy : Fin 3) (x : Fin 768) (co : Fin 256) : EReal :=
  w co ⟨x.val % 256, Nat.mod_lt _ (by decide)⟩ dy ⟨x.val / 256, by have := x.isLt; omega⟩

/-- A sum over the 768 columns is the sum over the three taps and the 256 channels. -/
theorem sum_cols (g : Fin 768 → EReal) :
    ∑ x : Fin 768, g x = ∑ dx : Fin 3, ∑ k : Fin 256, g ⟨dx.val * 256 + k.val, by have := dx.isLt; have := k.isLt; omega⟩ := by
  rw [← Fintype.sum_prod_type', ← (finProdFinEquiv (m := 3) (n := 256)).sum_comp]
  refine Finset.sum_congr rfl fun p _ => congrArg g (Fin.ext ?_)
  simp only [finProdFinEquiv_apply_val]
  omega

/-- One product over the 768 columns is the convolution's sum over the taps and channels of one row of taps. -/
theorem sum_wide (f : Fin 256 → Fin H → Fin W → EReal) (w : Fin 256 → Fin 256 → Fin 3 → Fin 3 → EReal) (base i j dyv : ℕ) (dy : Fin 3) (hdy : dyv = dy.val)
    (hj : j < W) (r : ℕ) (hr : r = dyv * W + (i * W + j)) (co : Fin 256) :
    ∑ x : Fin 768, wide f base r x * tap w dy x co = ∑ dx : Fin 3, ∑ k : Fin 256, px f k (base + i + dy) (j + dx) * w co k dy dx := by
  rw [sum_cols]
  have hW : 0 < W := by omega
  have hd : r / W = i + dy.val := by
    rw [hr, hdy, ← Nat.add_assoc, ← Nat.add_mul, Nat.add_comm, Nat.add_mul_div_right _ _ hW, Nat.div_eq_of_lt hj]; omega
  have hm : r % W = j := by
    rw [hr, ← Nat.add_assoc, ← Nat.add_mul, Nat.add_comm, Nat.add_mul_mod_self_right, Nat.mod_eq_of_lt hj]
  refine Finset.sum_congr rfl fun dx _ => Finset.sum_congr rfl fun k _ => ?_
  have h1 : (dx.val * 256 + k.val) % 256 = k.val := by have := k.isLt; omega
  have h2 : (dx.val * 256 + k.val) / 256 = dx.val := by have := k.isLt; omega
  simp only [wide, tap, hd, hm, h1, h2, Fin.eta, ← Nat.add_assoc]

/-- THE CHUNK: three products of the widened tile with the three rows of taps, plus bias, cut at zero, times the head's weights, plus its bias, is the level's
    value at image row `base + i`. -/
theorem head_of_wide (f : Fin 256 → Fin H → Fin W → EReal) (w : Fin 256 → Fin 256 → Fin 3 → Fin 3 → EReal) (b : Fin 256 → EReal) (u : Fin 256 → EReal) (c : EReal)
    (base i j : ℕ) (hj : j < W) (A B C : Fin 768 → EReal) (hA : ∀ x, A x = wide f base (0 * W + (i * W + j)) x)
    (hB : ∀ x, B x = wide f base (1 * W + (i * W + j)) x) (hC : ∀ x, C x = wide f base (2 * W + (i * W + j)) x) :
    (∑ co : Fin 256, max (∑ x, A x * tap w 0 x co + ∑ x, B x * tap w 1 x co + ∑ x, C x * tap w 2 x co + b co) 0 * u co) + c
      = head f w b u c (base + i) j := by
  unfold head hid
  simp only [hA, hB, hC]
  refine congrArg (· + c) (Finset.sum_congr rfl fun co _ => ?_)
  rw [Fin.sum_univ_three, sum_wide f w base i j 0 0 rfl hj _ rfl, sum_wide f w base i j 1 1 rfl hj _ rfl,
    sum_wide f w base i j 2 2 rfl hj _ rfl]

/-- The kernel's packed 3×3 weights: one row of taps per leading index, the tap and the input channel along the 768 rows, the output channel along the columns. -/
def unpack (wk : FVec Ideal ⟨3, ![3, 768, 256]⟩ .bf16) (co k : Fin 256) (dy dx : Fin 3) : EReal :=
  wk (ix3 dy ⟨dx.val * 256 + k.val, by have := dx.isLt; have := k.isLt; omega⟩ co)

/-- A packed weight read at its flattened column index. -/
theorem tap_unpack (wk : FVec Ideal ⟨3, ![3, 768, 256]⟩ .bf16) (dy : Fin 3) (x : Fin 768) (co : Fin 256) : tap (unpack wk) dy x co = wk (ix3 dy x co) := by
  unfold tap unpack
  congr 2
  exact Fin.ext (show x.val / 256 * 256 + x.val % 256 = x.val by omega)

/-- What the kernel is to store for one image: pixel `(i, j)`, packed output channel `o`, from the image, the packed weights and the biases. -/
def level (x : FVec Ideal ⟨4, ![1, 256, H, W]⟩ .bf16) (wk : FVec Ideal ⟨3, ![3, 768, 256]⟩ .bf16) (bc : FVec Ideal ⟨2, ![1, 256]⟩ .f32)
    (wh : FVec Ideal ⟨2, ![256, 16]⟩ .bf16) (bh : FVec Ideal ⟨2, ![1, 16]⟩ .f32) (i j : ℕ) (o : Fin 16) : EReal :=
  head (fun k a b => x (ix4 0 k a b)) (unpack wk) (fun co => bc (ix2 0 co)) (fun co => wh (ix2 co o)) (bh (ix2 0 o)) i j

/-- The same over a batch of two images: what is to be stored for image `n`. -/
def maps (x : FVec Ideal ⟨4, ![2, 256, H, W]⟩ .bf16) (wk : FVec Ideal ⟨3, ![3, 768, 256]⟩ .bf16) (bc : FVec Ideal ⟨2, ![1, 256]⟩ .f32)
    (wh : FVec Ideal ⟨2, ![256, 16]⟩ .bf16) (bh : FVec Ideal ⟨2, ![1, 16]⟩ .f32) (n : Fin 2) (i j : ℕ) (o : Fin 16) : EReal :=
  head (fun k a b => x (ix4 n k a b)) (unpack wk) (fun co => bc (ix2 0 co)) (fun co => wh (ix2 co o)) (bh (ix2 0 o)) i j

/-- One image out of a batch is stored as the batch asks. -/
theorem level_eq_maps (f : FVec Ideal ⟨4, ![1, 256, H, W]⟩ .bf16) (x : FVec Ideal ⟨4, ![2, 256, H, W]⟩ .bf16) (wk : FVec Ideal ⟨3, ![3, 768, 256]⟩ .bf16)
    (bc : FVec Ideal ⟨2, ![1, 256]⟩ .f32) (wh : FVec Ideal ⟨2, ![256, 16]⟩ .bf16) (bh : FVec Ideal ⟨2, ![1, 16]⟩ .f32) (n : Fin 2)
    (hf : ∀ k a b, f (ix4 0 k a b) = x (ix4 n k a b)) (i j : ℕ) (o : Fin 16) : level f wk bc wh bh i j o = maps x wk bc wh bh n i j o :=
  head_congr hf (fun _ _ _ _ => rfl) (fun _ => rfl) (fun _ => rfl) rfl i j

/-- One image's pixels, channel by channel. -/
abbrev img (x : FVec Ideal ⟨4, ![1, 256, H, W]⟩ .bf16) : Fin 256 → Fin H → Fin W → EReal := fun k a b => x (ix4 0 k a b)

/-- THE CHUNK AS THE KERNEL COMPUTES IT: three products over 768 columns with the three packed weight matrices, in order. -/
theorem level_of_wide (x : FVec Ideal ⟨4, ![1, 256, H, W]⟩ .bf16) (wk : FVec Ideal ⟨3, ![3, 768, 256]⟩ .bf16) (bc : FVec Ideal ⟨2, ![1, 256]⟩ .f32)
    (wh : FVec Ideal ⟨2, ![256, 16]⟩ .bf16) (bh : FVec Ideal ⟨2, ![1, 16]⟩ .f32) (base i j : ℕ) (hj : j < W) (o : Fin 16) (A B C : Fin 768 → EReal)
    (hA : ∀ y, A y = wide (img x) base (0 * W + (i * W + j)) y) (hB : ∀ y, B y = wide (img x) base (1 * W + (i * W + j)) y)
    (hC : ∀ y, C y = wide (img x) base (2 * W + (i * W + j)) y) (P Q R : Fin 768 → Fin 256 → EReal)
    (hP : ∀ y co, P y co = wk (ix3 0 y co)) (hQ : ∀ y co, Q y co = wk (ix3 1 y co)) (hR : ∀ y co, R y co = wk (ix3 2 y co)) :
    (∑ co : Fin 256, max (∑ y, A y * P y co + ∑ y, B y * Q y co + ∑ y, C y * R y co + bc (ix2 0 co)) 0 * wh (ix2 co o)) + bh (ix2 0 o)
      = level x wk bc wh bh (base + i) j o := by
  unfold level
  rw [← head_of_wide (img x) (unpack wk) _ _ _ base i j hj A B C hA hB hC]
  simp only [tap_unpack, hP, hQ, hR]

/-- The row index of the flat copy, counted from the first row of the bordered image. -/
theorem flat_row (f : Fin 256 → Fin H → Fin W → EReal) (hW : 0 < W) (base r : ℕ) (k : Fin 256) :
    flat f (8 + base * W + r) k = px f k (base + r / W) (r % W + 1) := by
  unfold flat
  rw [if_neg (by omega), show 8 + base * W + r - 8 = r + base * W by omega, Nat.add_mul_div_right _ _ hW, Nat.add_mul_mod_self_right, Nat.add_comm]

/-- Reading one row earlier and zeroing the first pixel of each image row gives the left neighbours. -/
theorem flat_left (f : Fin 256 → Fin H → Fin W → EReal) (hW : 0 < W) (base r : ℕ) (k : Fin 256) :
    flat f (7 + base * W + r) k * (if r % W = 0 then 0 else 1) = px f k (base + r / W) (r % W + 0) := by
  split_ifs with h
  · rw [h, mul_zero, Nat.zero_add, px_left]
  · obtain ⟨r', rfl⟩ := Nat.exists_eq_succ_of_ne_zero (n := r) (fun h0 => h (by rw [h0, Nat.zero_mod]))
    rw [mul_one, show 7 + base * W + (r' + 1) = 8 + base * W + r' by omega, flat_row f hW]
    have hm := Nat.div_add_mod r' W
    have hlt := Nat.mod_lt r' hW
    have hs : r' % W + 1 < W := by
      by_contra hc
      refine h ?_
      have : r' + 1 = W * (r' / W + 1) := by rw [Nat.mul_add]; omega
      rw [Nat.succ_eq_add_one, this, Nat.mul_mod_right]
    have e : r' + 1 = (r' % W + 1) + W * (r' / W) := by omega
    have h1 : (r' + 1) / W = r' / W := by rw [e, Nat.add_mul_div_left _ _ hW, Nat.div_eq_of_lt hs, Nat.zero_add]
    have h2 : (r' + 1) % W = r' % W + 1 := by
      conv_lhs => rw [e]
      rw [Nat.add_mul_mod_self_left, Nat.mod_eq_of_lt hs]
    rw [h1, h2, Nat.add_zero]

/-- Reading one row later and zeroing the last pixel of each image row gives the right neighbours. -/
theorem flat_right (f : Fin 256 → Fin H → Fin W → EReal) (hW : 0 < W) (base r : ℕ) (k : Fin 256) :
    flat f (9 + base * W + r) k * (if r % W = W - 1 then 0 else 1) = px f k (base + r / W) (r % W + 2) := by
  split_ifs with h
  · rw [mul_zero, px_right _ _ _ _ (by omega)]
  · rw [mul_one, show 9 + base * W + r = 8 + base * W + (r + 1) by omega, flat_row f hW]
    have hm := Nat.div_add_mod r W
    have hlt := Nat.mod_lt r hW
    have hs : r % W + 1 < W := by omega
    have e : r + 1 = (r % W + 1) + W * (r / W) := by omega
    have h1 : (r + 1) / W = r / W := by rw [e, Nat.add_mul_div_left _ _ hW, Nat.div_eq_of_lt hs, Nat.zero_add]
    have h2 : (r + 1) % W = r % W + 1 := by
      conv_lhs => rw [e]
      rw [Nat.add_mul_mod_self_left, Nat.mod_eq_of_lt hs]
    rw [h1, h2]

/-- The rows of zeros before the image. -/
theorem flat_head (f : Fin 256 → Fin H → Fin W → EReal) (hW : 0 < W) (ρ : ℕ) (k : Fin 256) (h : ρ < W + 8) : flat f ρ k = 0 := by
  unfold flat
  split_ifs
  · rfl
  · rw [Nat.div_eq_of_lt (by omega), px_top]

/-- The rows of zeros after the image. -/
theorem flat_tail (f : Fin 256 → Fin H → Fin W → EReal) (hW : 0 < W) (r : ℕ) (k : Fin 256) : flat f (8 + (H + 1) * W + r) k = 0 := by
  rw [flat_row f hW, px_bottom]
  exact Nat.lt_of_lt_of_le (Nat.lt_succ_self H) (Nat.le_add_right _ _)

/-- The image rows from `base`, row after row. -/
theorem flat_image (f : Fin 256 → Fin H → Fin W → EReal) (hW : 0 < W) (base r : ℕ) (k : Fin 256) (hi : base + r / W < H) :
    flat f (8 + (base + 1) * W + r) k = f k ⟨base + r / W, hi⟩ ⟨r % W, Nat.mod_lt _ hW⟩ := by
  rw [flat_row f hW, ← px_inside f k ⟨base + r / W, hi⟩ ⟨r % W, Nat.mod_lt _ hW⟩]
  congr 1
  show base + 1 + r / W = base + r / W + 1
  omega

/-- A mask chosen by the low bits of a row number. -/
theorem select_low (p : ℕ) (r c : ℕ) (hr : r < 2 ^ 32) (hp : p ≤ 32) (hc : c < 2 ^ p) (a b : EReal) :
    Scalar.select (IntOp.cmpi .ne (IntOp.andi (BitVec.ofNat 32 r) (BitVec.ofNat 32 (2 ^ p - 1))) (BitVec.ofNat 32 c)) a b
      = if r % 2 ^ p = c then b else a := by
  have h2 : 2 ^ p ≤ 2 ^ 32 := Nat.pow_le_pow_right (by decide) hp
  have e : IntOp.andi (BitVec.ofNat 32 r) (BitVec.ofNat 32 (2 ^ p - 1)) = BitVec.ofNat 32 (r % 2 ^ p) := by
    apply BitVec.eq_of_toNat_eq
    have hm := Nat.mod_lt r (Nat.two_pow_pos p)
    show (BitVec.ofNat 32 r &&& BitVec.ofNat 32 (2 ^ p - 1)).toNat = _
    rw [BitVec.toNat_and, BitVec.toNat_ofNat, BitVec.toNat_ofNat, BitVec.toNat_ofNat, Nat.mod_eq_of_lt hr,
      Nat.mod_eq_of_lt (a := 2 ^ p - 1) (by omega), Nat.and_two_pow_sub_one_eq_mod, Nat.mod_eq_of_lt (a := r % 2 ^ p) (by omega)]
  have hm := Nat.mod_lt r (Nat.two_pow_pos p)
  rw [e, WordCmp.cmpi_ne_ofNat (by omega) (by omega), WordCmp.select_ofBool]
  by_cases h : r % 2 ^ p = c <;> simp [h]

/-- The same mask as a factor: what it keeps is kept, what it drops becomes zero. -/
theorem mask_low (p : ℕ) (r c : ℕ) (hr : r < 2 ^ 32) (hp : p ≤ 32) (hc : c < 2 ^ p) (v : EReal) :
    Scalar.select (IntOp.cmpi .ne (IntOp.andi (BitVec.ofNat 32 r) (BitVec.ofNat 32 (2 ^ p - 1))) (BitVec.ofNat 32 c)) v 0
      = v * (if r % 2 ^ p = c then 0 else 1) := by
  rw [select_low p r c hr hp hc]
  split_ifs
  · rw [mul_zero]
  · rw [mul_one]

end Cert.Spec

end
-- ==== Proof.Host.lean ====
/- The kernel program's host operations: the packed operands they hand to every launch, and the results they cut out of the launches' arrays. -/
module

public import proofs.«01_k».proof.Proof.Tiles
public import proofs.«01_k».proof.Proof.Gen.KernelIdeal.Frame
public import Idealize.ShloMosaic.Lib.Claim
public import Idealize.ShloMosaic.Lib.KernelVsHost
public import Idealize.ShloMosaic.Lib.Pipeline.ValueKit

@[expose] public section

set_option maxRecDepth 16384

noncomputable section

namespace Cert.KernelIdeal.Host

open Cert.KernelIdeal Cert.KernelIdeal.Gen Cert.Spec Idealize.ShloMosaic Idealize.ShloMosaic.TcCoe Idealize.SL.Sem

/-- The convolution's weights as the launches take them: for each row of the 3×3 window a matrix of 3·256 input rows. -/
def packW (w : FVec Ideal S256x256x3x3 .f32) : FVec Ideal S3x768x256 .bf16 :=
  truncf .bf16 (shapeCast S3x768x256 (transpose S3x3x256x256 [2, 3, 1, 0] w transposes_S256x256x3x3_S3x3x256x256_2_3_1_0) shapeCasts_S3x3x256x256_S3x768x256)
    bitsLt_bf16_f32

/-- Both heads' weights side by side, padded to 16 columns. -/
def packU (u : FVec Ideal S3x256x1x1 .f32) (v : FVec Ideal S12x256x1x1 .f32) : FVec Ideal S256x16 .bf16 :=
  truncf .bf16 (pad S256x16 ![0, 0] ![0, 1] ![0, 0]
    (transpose S256x15 [1, 0] (concatenate S15x256 0 [⟨S3x256, shapeCast S3x256 u shapeCasts_S3x256x1x1_S3x256⟩,
      ⟨S12x256, shapeCast S12x256 v shapeCasts_S12x256x1x1_S12x256⟩] concatenates_S3x256_S12x256_S15x256_d0) transposes_S15x256_S256x15_1_0)
    (sitofp .f32 (constantI S_ 32 0#32)) pads_S256x15_S256x16_000_010 h_S_) bitsLt_bf16_f32

/-- Both heads' biases side by side, padded to 16. -/
def packB (u : FVec Ideal S3 .f32) (v : FVec Ideal S12 .f32) : FVec Ideal S1x16 .f32 :=
  shapeCast S1x16 (pad S16 ![0] ![1] ![0] (concatenate S15 0 [⟨S3, u⟩, ⟨S12, v⟩] concatenates_S3_S12_S15_d0) (sitofp .f32 (constantI S_ 32 0#32))
    pads_S15_S16_010 h_S_) shapeCasts_S16_S1x16

/-- Unpacking the packed weights gives the convolution's weights back. -/
theorem unpack_packW (w : FVec Ideal S256x256x3x3 .f32) (co k : Fin 256) (dy dx : Fin 3) : unpack (packW w) co k dy dx = w (ix4 co k dy dx) := by
  unfold unpack
  pointwise [packW]

/-- The first three columns are the scores' weights. -/
theorem packU_score (u : FVec Ideal S3x256x1x1 .f32) (v : FVec Ideal S12x256x1x1 .f32) (co : Fin 256) (a : Fin 3) :
    packU u v (ix2 co ⟨a.val, by omega⟩) = u (ix4 a co 0 0) := by
  unfold packU
  pointwise [pad]
  exact dif_pos (by omega)

/-- The next twelve columns are the boxes' weights. -/
theorem packU_box (u : FVec Ideal S3x256x1x1 .f32) (v : FVec Ideal S12x256x1x1 .f32) (co : Fin 256) (a : Fin 12) :
    packU u v (ix2 co ⟨3 + a.val, by omega⟩) = v (ix4 a co 0 0) := by
  unfold packU
  pointwise [pad]
  exact dif_pos (by omega)

/-- The first three biases are the scores'. -/
theorem packB_score (u : FVec Ideal S3 .f32) (v : FVec Ideal S12 .f32) (a : Fin 3) : packB u v (ix2 0 ⟨a.val, by omega⟩) = u (ix1 a) := by
  unfold packB
  pointwise [pad]
  exact dif_pos (by omega)

/-- The next twelve are the boxes'. -/
theorem packB_box (u : FVec Ideal S3 .f32) (v : FVec Ideal S12 .f32) (a : Fin 12) : packB u v (ix2 0 ⟨3 + a.val, by omega⟩) = v (ix1 a) := by
  unfold packB
  pointwise [pad]
  exact dif_pos (by omega)

variable (m : (ℓ : Loc nD τ sig) → Buf (Elt Ideal) ℓ) (ρ : Dev nD → PrngReg) (c : Dev nD)

/-- The launches' weights are the packed convolution weights. -/
theorem W5_v2 : W5 m ρ c (Proc.devRef .tc main_v2) = packW (m ((c : Thread nD τ).loc main_arg5)) := by
  rw [W5_of m ρ c main_v2 (by decide), W4_of m ρ c main_v2 (by decide), W3_of m ρ c main_v2 (by decide), W2_of m ρ c main_v2 (by decide)]
  unfold_abbrev_sides
  after_results
  rfl

/-- The launches' head weights are the packed ones. -/
theorem W5_v8 : W5 m ρ c (Proc.devRef .tc main_v8) = packU (m ((c : Thread nD τ).loc main_arg7)) (m ((c : Thread nD τ).loc main_arg9)) := by
  rw [W5_of m ρ c main_v8 (by decide), W4_of m ρ c main_v8 (by decide)]
  unfold_abbrev_sides
  after_results
  rfl

/-- The launches' bias is the convolution's, as one row. -/
theorem W5_v11 : W5 m ρ c (Proc.devRef .tc main_v11) = shapeCast S1x256 (m ((c : Thread nD τ).loc main_arg6)) shapeCasts_S256_S1x256 := by
  unfold_abbrev_sides
  after_results
  rfl

/-- The launches' head biases are the packed ones. -/
theorem W5_v12 : W5 m ρ c (Proc.devRef .tc main_v12) = packB (m ((c : Thread nD τ).loc main_arg8)) (m ((c : Thread nD τ).loc main_arg10)) := by
  unfold_abbrev_sides
  after_results
  rfl

/-- The first launch's batch is the largest feature map. -/
theorem W5_v13 : W5 m ρ c (Proc.devRef .tc main_v13) = (truncf .bf16 (m ((c : Thread nD τ).loc main_arg0)) bitsLt_bf16_f32 : FVec Ideal S2x256x128x128 .bf16) := by
  unfold_abbrev_sides
  after_results

/-- The four packed operands, as every launch takes them. -/
abbrev packed : List (Ref sig .tc) := [main_v2, main_v8, main_v11, main_v12]

/-- The first launch leaves the packed operands as they were. -/
theorem packed_1 (r : Ref sig .tc) (h : r ∈ packed) : W7 m ρ c (Proc.devRef .tc r) = W5 m ρ c (Proc.devRef .tc r) :=
  (W7_of m ρ c r ((by decide +kernel : ∀ r ∈ packed, r ∉ hostOps1_W) r h)).trans
    (W6_of m ρ c r ((by decide +kernel : ∀ r ∈ packed, ∀ w : Fin cfg0.W, Pipeline.arrRef spec0 w = r → (cfg0.win w).isOut = false) r h))

/-- So does the second. -/
theorem packed_2 (r : Ref sig .tc) (h : r ∈ packed) : W9 m ρ c (Proc.devRef .tc r) = W5 m ρ c (Proc.devRef .tc r) :=
  ((W9_of m ρ c r ((by decide +kernel : ∀ r ∈ packed, r ∉ hostOps2_W) r h)).trans
    (W8_of m ρ c r ((by decide +kernel : ∀ r ∈ packed, ∀ w : Fin cfg1.W, Pipeline.arrRef spec1 w = r → (cfg1.win w).isOut = false) r h))).trans (packed_1 m ρ c r h)

/-- So does the third. -/
theorem packed_3 (r : Ref sig .tc) (h : r ∈ packed) : W11 m ρ c (Proc.devRef .tc r) = W5 m ρ c (Proc.devRef .tc r) :=
  ((W11_of m ρ c r ((by decide +kernel : ∀ r ∈ packed, r ∉ hostOps3_W) r h)).trans
    (W10_of m ρ c r ((by decide +kernel : ∀ r ∈ packed, ∀ w : Fin cfg2.W, Pipeline.arrRef spec2 w = r → (cfg2.win w).isOut = false) r h))).trans (packed_2 m ρ c r h)

/-- So does the fourth. -/
theorem packed_4 (r : Ref sig .tc) (h : r ∈ packed) : W13 m ρ c (Proc.devRef .tc r) = W5 m ρ c (Proc.devRef .tc r) :=
  ((W13_of m ρ c r ((by decide +kernel : ∀ r ∈ packed, r ∉ hostOps4_W) r h)).trans
    (W12_of m ρ c r ((by decide +kernel : ∀ r ∈ packed, ∀ w : Fin cfg3.W, Pipeline.arrRef spec3 w = r → (cfg3.win w).isOut = false) r h))).trans (packed_3 m ρ c r h)

/-- The second launch's batch is the feature map of its level. -/
theorem W7_v19 : W7 m ρ c (Proc.devRef .tc main_v19) = (truncf .bf16 (m ((c : Thread nD τ).loc main_arg1)) bitsLt_bf16_f32 : FVec Ideal S2x256x64x64 .bf16) := by
  rw [← W6_args m ρ c main_arg1 (by decide)]
  unfold_abbrev_sides
  after_results

/-- The third launch's batch is the feature map of its level. -/
theorem W9_v25 : W9 m ρ c (Proc.devRef .tc main_v25) = (truncf .bf16 (m ((c : Thread nD τ).loc main_arg2)) bitsLt_bf16_f32 : FVec Ideal S2x256x32x32 .bf16) := by
  rw [← W8_args m ρ c main_arg2 (by decide)]
  unfold_abbrev_sides
  after_results

/-- The fourth launch's batch is the feature map of its level. -/
theorem W11_v31 : W11 m ρ c (Proc.devRef .tc main_v31) = (truncf .bf16 (m ((c : Thread nD τ).loc main_arg3)) bitsLt_bf16_f32 : FVec Ideal S2x256x16x16 .bf16) := by
  rw [← W10_args m ρ c main_arg3 (by decide)]
  unfold_abbrev_sides
  after_results

/-- The fifth launch's batch is the feature map of its level. -/
theorem W13_v37 : W13 m ρ c (Proc.devRef .tc main_v37) = (truncf .bf16 (m ((c : Thread nD τ).loc main_arg4)) bitsLt_bf16_f32 : FVec Ideal S2x256x8x8 .bf16) := by
  rw [← W12_args m ρ c main_arg4 (by decide)]
  unfold_abbrev_sides
  after_results

/-- What is to be stored depends on the operands alone. -/
theorem maps_congr {H W : ℕ} {x x' : FVec Ideal ⟨4, ![2, 256, H, W]⟩ .bf16} {w w' : FVec Ideal S3x768x256 .bf16} {b b' : FVec Ideal S1x256 .f32}
    {u u' : FVec Ideal S256x16 .bf16} {p p' : FVec Ideal S1x16 .f32} (hx : x = x') (hw : w = w') (hb : b = b') (hu : u = u') (hp : p = p')
    (n : Fin 2) (i j : ℕ) (o : Fin 16) : maps x w b u p n i j o = maps x' w' b' u' p' n i j o := by
  rw [hx, hw, hb, hu, hp]

/-- What a launch is to store at one of the first three channels is the score's convolution. -/
theorem maps_score {H W : ℕ} (x : FVec Ideal ⟨4, ![2, 256, H, W]⟩ .f32) (w : FVec Ideal S256x256x3x3 .f32) (b : FVec Ideal S256 .f32)
    (u : FVec Ideal S3x256x1x1 .f32) (p : FVec Ideal S3 .f32) (v : FVec Ideal S12x256x1x1 .f32) (q : FVec Ideal S12 .f32) (n : Fin 2) (i j : ℕ) (a : Fin 3) :
    maps (truncf .bf16 x bitsLt_bf16_f32) (packW w) (shapeCast S1x256 b shapeCasts_S256_S1x256) (packU u v) (packB p q) n i j ⟨a.val, by omega⟩
      = head (fun k i j => x (ix4 n k i j)) (fun co k dy dx => w (ix4 co k dy dx)) (fun co => b (ix1 co)) (fun co => u (ix4 a co 0 0)) (p (ix1 a)) i j :=
  head_congr (fun _ _ _ => rfl) (unpack_packW w) (fun co => by pointwise) (packU_score u v · a) (packB_score p q a) i j

/-- At one of the next twelve it is the box's. -/
theorem maps_box {H W : ℕ} (x : FVec Ideal ⟨4, ![2, 256, H, W]⟩ .f32) (w : FVec Ideal S256x256x3x3 .f32) (b : FVec Ideal S256 .f32)
    (u : FVec Ideal S3x256x1x1 .f32) (p : FVec Ideal S3 .f32) (v : FVec Ideal S12x256x1x1 .f32) (q : FVec Ideal S12 .f32) (n : Fin 2) (i j : ℕ) (a : Fin 12) :
    maps (truncf .bf16 x bitsLt_bf16_f32) (packW w) (shapeCast S1x256 b shapeCasts_S256_S1x256) (packU u v) (packB p q) n i j ⟨3 + a.val, by omega⟩
      = head (fun k i j => x (ix4 n k i j)) (fun co k dy dx => w (ix4 co k dy dx)) (fun co => b (ix1 co)) (fun co => v (ix4 a co 0 0)) (q (ix1 a)) i j :=
  head_congr (fun _ _ _ => rfl) (unpack_packW w) (fun co => by pointwise) (packU_box u v · a) (packB_box p q a) i j

end Cert.KernelIdeal.Host

end
-- ==== Proof.Pad.lean ====
/- The reference's padding of one level's feature map, read at an index. -/
module

public import proofs.«01_k».proof.Proof.Spec

@[expose] public section

set_option maxRecDepth 16384

noncomputable section

namespace Cert.Spec

open Idealize.ShloMosaic

/-- A batch of two feature maps padded by one zero on each side of both image axes is, image by image, the bordered image. -/
theorem pad_px {H W : ℕ} (x : FVec Ideal ⟨4, ![2, 256, H, W]⟩ .f32) (v : FVec Ideal ⟨0, ![]⟩ .f32) (hv : ∀ i, v i = (0 : EReal))
    (h : Shape.Pads ⟨4, ![2, 256, H, W]⟩ ![0, 0, 1, 1] ![0, 0, 1, 1] ![0, 0, 0, 0] ⟨4, ![2, 256, H + 2, W + 2]⟩)
    (hu : 0 < (⟨0, ![]⟩ : Shape).numel) (n : Fin 2) (k : Fin 256) (i : Fin (H + 2)) (j : Fin (W + 2)) :
    pad ⟨4, ![2, 256, H + 2, W + 2]⟩ ![0, 0, 1, 1] ![0, 0, 1, 1] ![0, 0, 0, 0] x v h hu (ix4 n k i j)
      = px (fun k a b => x (ix4 n k a b)) k i j := by
  unfold pad px
  by_cases hh : (1 ≤ i.val ∧ i.val - 1 < H) ∧ (1 ≤ j.val ∧ j.val - 1 < W)
  · rw [dif_pos hh, dif_pos]
    · refine congrArg x (funext fun a => Fin.ext ?_)
      fin_cases a <;> simp [ix4]
    · intro a
      have := n.isLt; have := k.isLt
      fin_cases a <;> simp [ix4] <;> omega
  · rw [dif_neg hh, dif_neg]
    · exact hv _
    · intro hin
      refine hh ⟨?_, ?_⟩
      · have h2 : 1 ≤ i.val ∧ (i.val - 1) % 1 = 0 ∧ (i.val - 1) / 1 < H := hin 2
        omega
      · have h3 : 1 ≤ j.val ∧ (j.val - 1) % 1 = 0 ∧ (j.val - 1) / 1 < W := hin 3
        omega

end Cert.Spec

end
-- ==== Proof.Reference.lean ====
/- The reference's ten results, read at an index. For each level the hidden map (the nine shifted products, the bias, the cut at zero) and the two heads are
   the convolutions `hid` and `head` of the bordered image. -/
module

public import proofs.«01_k».proof.Proof.Pad
public import proofs.«01_k».proof.Proof.Gen.ReferenceIdeal.Read
public import Idealize.ShloMosaic.Lib.KernelVsHost
public import Idealize.ShloMosaic.Lib.Pipeline.ValueKit

@[expose] public section

set_option maxRecDepth 16384

noncomputable section

namespace Cert.ReferenceIdeal.Levels

open Cert.ReferenceIdeal Cert.ReferenceIdeal.Gen Cert.ReferenceIdeal.Read Cert.Spec Idealize.ShloMosaic Idealize.ShloMosaic.TcCoe Idealize.SL.Sem

/-- Level 0: channel `co` of the hidden map at a pixel of image `n`. -/
theorem hid0 (x : FVec Ideal S2x256x128x128 .f32) (w : FVec Ideal S256x256x3x3 .f32) (b : FVec Ideal S256 .f32) (n : Fin 2) (co : Fin 256) (i j : Fin 128) :
    val_main_v58 (F := Ideal) x w b (ix4 n co i j)
      = hid (fun k i j => x (ix4 n k i j)) (fun co k dy dx => w (ix4 co k dy dx)) (fun co => b (ix1 co)) co i.val j.val := by
  have hp (k : Fin 256) (i j : Fin 130) : val_main_v0 (F := Ideal) x (ix4 n k i j) = px (fun k i j => x (ix4 n k i j)) k i.val j.val :=
    pad_px x _ (fun _ => sitofp_zero) _ _ n k i j
  unfold hid
  pointwise [
    val_main_v1, val_main_v2, val_main_v3, val_main_v4, val_main_v5, val_main_v6, val_main_v7, val_main_v8, val_main_v9, val_main_v10, val_main_v11,
    val_main_v12, val_main_v13, val_main_v14, val_main_v15, val_main_v16, val_main_v17, val_main_v18, val_main_v19, val_main_v20, val_main_v21,
    val_main_v22, val_main_v23, val_main_v24, val_main_v25, val_main_v26, val_main_v27, val_main_v28, val_main_v29, val_main_v30, val_main_v31,
    val_main_v32, val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50, val_main_v51,
    val_main_v52, val_main_v53, val_main_v54, val_main_v55, val_main_v56, val_main_v57, val_main_v58, val_main_cst]
  simp only [hp, Fin.sum_univ_three, Fin.val_zero, Fin.val_one, Fin.val_two, Nat.add_zero, Nat.add_comm 1, Nat.add_comm 2, mul_comm, add_assoc]

/-- Level 0: score `a` at a pixel of image `n`. -/
theorem score0 (x : FVec Ideal S2x256x128x128 .f32) (w : FVec Ideal S256x256x3x3 .f32) (b : FVec Ideal S256 .f32) (wc : FVec Ideal S3x256x1x1 .f32)
    (bc : FVec Ideal S3 .f32) (n : Fin 2) (a : Fin 3) (i j : Fin 128) :
    val_main_v64 (F := Ideal) x w b wc bc (ix4 n a i j)
      = head (fun k i j => x (ix4 n k i j)) (fun co k dy dx => w (ix4 co k dy dx)) (fun co => b (ix1 co)) (fun co => wc (ix4 a co 0 0)) (bc (ix1 a))
          i.val j.val := by
  unfold head
  pointwise [
    val_main_v59, val_main_v60, val_main_v61, val_main_v62, val_main_v63, val_main_v64]
  simp only [hid0, mul_comm]

/-- Level 0: box number `a` at a pixel of image `n`. -/
theorem box0 (x : FVec Ideal S2x256x128x128 .f32) (w : FVec Ideal S256x256x3x3 .f32) (b : FVec Ideal S256 .f32) (wb : FVec Ideal S12x256x1x1 .f32)
    (bb : FVec Ideal S12 .f32) (n : Fin 2) (a : Fin 12) (i j : Fin 128) :
    val_main_v70 (F := Ideal) x w b wb bb (ix4 n a i j)
      = head (fun k i j => x (ix4 n k i j)) (fun co k dy dx => w (ix4 co k dy dx)) (fun co => b (ix1 co)) (fun co => wb (ix4 a co 0 0)) (bb (ix1 a))
          i.val j.val := by
  unfold head
  pointwise [
    val_main_v65, val_main_v66, val_main_v67, val_main_v68, val_main_v69, val_main_v70]
  simp only [hid0, mul_comm]

/-- Level 1: channel `co` of the hidden map at a pixel of image `n`. -/
theorem hid1 (x : FVec Ideal S2x256x64x64 .f32) (w : FVec Ideal S256x256x3x3 .f32) (b : FVec Ideal S256 .f32) (n : Fin 2) (co : Fin 256) (i j : Fin 64) :
    val_main_v129 (F := Ideal) x w b (ix4 n co i j)
      = hid (fun k i j => x (ix4 n k i j)) (fun co k dy dx => w (ix4 co k dy dx)) (fun co => b (ix1 co)) co i.val j.val := by
  have hp (k : Fin 256) (i j : Fin 66) : val_main_v71 (F := Ideal) x (ix4 n k i j) = px (fun k i j => x (ix4 n k i j)) k i.val j.val :=
    pad_px x _ (fun _ => sitofp_zero) _ _ n k i j
  unfold hid
  pointwise [
    val_main_v72, val_main_v73, val_main_v74, val_main_v75, val_main_v76, val_main_v77, val_main_v78, val_main_v79, val_main_v80, val_main_v81,
    val_main_v82, val_main_v83, val_main_v84, val_main_v85, val_main_v86, val_main_v87, val_main_v88, val_main_v89, val_main_v90, val_main_v91,
    val_main_v92, val_main_v93, val_main_v94, val_main_v95, val_main_v96, val_main_v97, val_main_v98, val_main_v99, val_main_v100, val_main_v101,
    val_main_v102, val_main_v103, val_main_v104, val_main_v105, val_main_v106, val_main_v107, val_main_v108, val_main_v109, val_main_v110,
    val_main_v111, val_main_v112, val_main_v113, val_main_v114, val_main_v115, val_main_v116, val_main_v117, val_main_v118, val_main_v119,
    val_main_v120, val_main_v121, val_main_v122, val_main_v123, val_main_v124, val_main_v125, val_main_v126, val_main_v127, val_main_v128,
    val_main_v129, val_main_cst_1]
  simp only [hp, Fin.sum_univ_three, Fin.val_zero, Fin.val_one, Fin.val_two, Nat.add_zero, Nat.add_comm 1, Nat.add_comm 2, mul_comm, add_assoc]

/-- Level 1: score `a` at a pixel of image `n`. -/
theorem score1 (x : FVec Ideal S2x256x64x64 .f32) (w : FVec Ideal S256x256x3x3 .f32) (b : FVec Ideal S256 .f32) (wc : FVec Ideal S3x256x1x1 .f32)
    (bc : FVec Ideal S3 .f32) (n : Fin 2) (a : Fin 3) (i j : Fin 64) :
    val_main_v135 (F := Ideal) x w b wc bc (ix4 n a i j)
      = head (fun k i j => x (ix4 n k i j)) (fun co k dy dx => w (ix4 co k dy dx)) (fun co => b (ix1 co)) (fun co => wc (ix4 a co 0 0)) (bc (ix1 a))
          i.val j.val := by
  unfold head
  pointwise [
    val_main_v130, val_main_v131, val_main_v132, val_main_v133, val_main_v134, val_main_v135]
  simp only [hid1, mul_comm]

/-- Level 1: box number `a` at a pixel of image `n`. -/
theorem box1 (x : FVec Ideal S2x256x64x64 .f32) (w : FVec Ideal S256x256x3x3 .f32) (b : FVec Ideal S256 .f32) (wb : FVec Ideal S12x256x1x1 .f32)
    (bb : FVec Ideal S12 .f32) (n : Fin 2) (a : Fin 12) (i j : Fin 64) :
    val_main_v141 (F := Ideal) x w b wb bb (ix4 n a i j)
      = head (fun k i j => x (ix4 n k i j)) (fun co k dy dx => w (ix4 co k dy dx)) (fun co => b (ix1 co)) (fun co => wb (ix4 a co 0 0)) (bb (ix1 a))
          i.val j.val := by
  unfold head
  pointwise [
    val_main_v136, val_main_v137, val_main_v138, val_main_v139, val_main_v140, val_main_v141]
  simp only [hid1, mul_comm]

/-- Level 2: channel `co` of the hidden map at a pixel of image `n`. -/
theorem hid2 (x : FVec Ideal S2x256x32x32 .f32) (w : FVec Ideal S256x256x3x3 .f32) (b : FVec Ideal S256 .f32) (n : Fin 2) (co : Fin 256) (i j : Fin 32) :
    val_main_v200 (F := Ideal) x w b (ix4 n co i j)
      = hid (fun k i j => x (ix4 n k i j)) (fun co k dy dx => w (ix4 co k dy dx)) (fun co => b (ix1 co)) co i.val j.val := by
  have hp (k : Fin 256) (i j : Fin 34) : val_main_v142 (F := Ideal) x (ix4 n k i j) = px (fun k i j => x (ix4 n k i j)) k i.val j.val :=
    pad_px x _ (fun _ => sitofp_zero) _ _ n k i j
  unfold hid
  pointwise [
    val_main_v143, val_main_v144, val_main_v145, val_main_v146, val_main_v147, val_main_v148, val_main_v149, val_main_v150, val_main_v151,
    val_main_v152, val_main_v153, val_main_v154, val_main_v155, val_main_v156, val_main_v157, val_main_v158, val_main_v159, val_main_v160,
    val_main_v161, val_main_v162, val_main_v163, val_main_v164, val_main_v165, val_main_v166, val_main_v167, val_main_v168, val_main_v169,
    val_main_v170, val_main_v171, val_main_v172, val_main_v173, val_main_v174, val_main_v175, val_main_v176, val_main_v177, val_main_v178,
    val_main_v179, val_main_v180, val_main_v181, val_main_v182, val_main_v183, val_main_v184, val_main_v185, val_main_v186, val_main_v187,
    val_main_v188, val_main_v189, val_main_v190, val_main_v191, val_main_v192, val_main_v193, val_main_v194, val_main_v195, val_main_v196,
    val_main_v197, val_main_v198, val_main_v199, val_main_v200, val_main_cst_3]
  simp only [hp, Fin.sum_univ_three, Fin.val_zero, Fin.val_one, Fin.val_two, Nat.add_zero, Nat.add_comm 1, Nat.add_comm 2, mul_comm, add_assoc]

/-- Level 2: score `a` at a pixel of image `n`. -/
theorem score2 (x : FVec Ideal S2x256x32x32 .f32) (w : FVec Ideal S256x256x3x3 .f32) (b : FVec Ideal S256 .f32) (wc : FVec Ideal S3x256x1x1 .f32)
    (bc : FVec Ideal S3 .f32) (n : Fin 2) (a : Fin 3) (i j : Fin 32) :
    val_main_v206 (F := Ideal) x w b wc bc (ix4 n a i j)
      = head (fun k i j => x (ix4 n k i j)) (fun co k dy dx => w (ix4 co k dy dx)) (fun co => b (ix1 co)) (fun co => wc (ix4 a co 0 0)) (bc (ix1 a))
          i.val j.val := by
  unfold head
  pointwise [
    val_main_v201, val_main_v202, val_main_v203, val_main_v204, val_main_v205, val_main_v206]
  simp only [hid2, mul_comm]

/-- Level 2: box number `a` at a pixel of image `n`. -/
theorem box2 (x : FVec Ideal S2x256x32x32 .f32) (w : FVec Ideal S256x256x3x3 .f32) (b : FVec Ideal S256 .f32) (wb : FVec Ideal S12x256x1x1 .f32)
    (bb : FVec Ideal S12 .f32) (n : Fin 2) (a : Fin 12) (i j : Fin 32) :
    val_main_v212 (F := Ideal) x w b wb bb (ix4 n a i j)
      = head (fun k i j => x (ix4 n k i j)) (fun co k dy dx => w (ix4 co k dy dx)) (fun co => b (ix1 co)) (fun co => wb (ix4 a co 0 0)) (bb (ix1 a))
          i.val j.val := by
  unfold head
  pointwise [
    val_main_v207, val_main_v208, val_main_v209, val_main_v210, val_main_v211, val_main_v212]
  simp only [hid2, mul_comm]

/-- Level 3: channel `co` of the hidden map at a pixel of image `n`. -/
theorem hid3 (x : FVec Ideal S2x256x16x16 .f32) (w : FVec Ideal S256x256x3x3 .f32) (b : FVec Ideal S256 .f32) (n : Fin 2) (co : Fin 256) (i j : Fin 16) :
    val_main_v271 (F := Ideal) x w b (ix4 n co i j)
      = hid (fun k i j => x (ix4 n k i j)) (fun co k dy dx => w (ix4 co k dy dx)) (fun co => b (ix1 co)) co i.val j.val := by
  have hp (k : Fin 256) (i j : Fin 18) : val_main_v213 (F := Ideal) x (ix4 n k i j) = px (fun k i j => x (ix4 n k i j)) k i.val j.val :=
    pad_px x _ (fun _ => sitofp_zero) _ _ n k i j
  unfold hid
  pointwise [
    val_main_v214, val_main_v215, val_main_v216, val_main_v217, val_main_v218, val_main_v219, val_main_v220, val_main_v221, val_main_v222,
    val_main_v223, val_main_v224, val_main_v225, val_main_v226, val_main_v227, val_main_v228, val_main_v229, val_main_v230, val_main_v231,
    val_main_v232, val_main_v233, val_main_v234, val_main_v235, val_main_v236, val_main_v237, val_main_v238, val_main_v239, val_main_v240,
    val_main_v241, val_main_v242, val_main_v243, val_main_v244, val_main_v245, val_main_v246, val_main_v247, val_main_v248, val_main_v249,
    val_main_v250, val_main_v251, val_main_v252, val_main_v253, val_main_v254, val_main_v255, val_main_v256, val_main_v257, val_main_v258,
    val_main_v259, val_main_v260, val_main_v261, val_main_v262, val_main_v263, val_main_v264, val_main_v265, val_main_v266, val_main_v267,
    val_main_v268, val_main_v269, val_main_v270, val_main_v271, val_main_cst_5]
  simp only [hp, Fin.sum_univ_three, Fin.val_zero, Fin.val_one, Fin.val_two, Nat.add_zero, Nat.add_comm 1, Nat.add_comm 2, mul_comm, add_assoc]

/-- Level 3: score `a` at a pixel of image `n`. -/
theorem score3 (x : FVec Ideal S2x256x16x16 .f32) (w : FVec Ideal S256x256x3x3 .f32) (b : FVec Ideal S256 .f32) (wc : FVec Ideal S3x256x1x1 .f32)
    (bc : FVec Ideal S3 .f32) (n : Fin 2) (a : Fin 3) (i j : Fin 16) :
    val_main_v277 (F := Ideal) x w b wc bc (ix4 n a i j)
      = head (fun k i j => x (ix4 n k i j)) (fun co k dy dx => w (ix4 co k dy dx)) (fun co => b (ix1 co)) (fun co => wc (ix4 a co 0 0)) (bc (ix1 a))
          i.val j.val := by
  unfold head
  pointwise [
    val_main_v272, val_main_v273, val_main_v274, val_main_v275, val_main_v276, val_main_v277]
  simp only [hid3, mul_comm]

/-- Level 3: box number `a` at a pixel of image `n`. -/
theorem box3 (x : FVec Ideal S2x256x16x16 .f32) (w : FVec Ideal S256x256x3x3 .f32) (b : FVec Ideal S256 .f32) (wb : FVec Ideal S12x256x1x1 .f32)
    (bb : FVec Ideal S12 .f32) (n : Fin 2) (a : Fin 12) (i j : Fin 16) :
    val_main_v283 (F := Ideal) x w b wb bb (ix4 n a i j)
      = head (fun k i j => x (ix4 n k i j)) (fun co k dy dx => w (ix4 co k dy dx)) (fun co => b (ix1 co)) (fun co => wb (ix4 a co 0 0)) (bb (ix1 a))
          i.val j.val := by
  unfold head
  pointwise [
    val_main_v278, val_main_v279, val_main_v280, val_main_v281, val_main_v282, val_main_v283]
  simp only [hid3, mul_comm]

/-- Level 4: channel `co` of the hidden map at a pixel of image `n`. -/
theorem hid4 (x : FVec Ideal S2x256x8x8 .f32) (w : FVec Ideal S256x256x3x3 .f32) (b : FVec Ideal S256 .f32) (n : Fin 2) (co : Fin 256) (i j : Fin 8) :
    val_main_v342 (F := Ideal) x w b (ix4 n co i j)
      = hid (fun k i j => x (ix4 n k i j)) (fun co k dy dx => w (ix4 co k dy dx)) (fun co => b (ix1 co)) co i.val j.val := by
  have hp (k : Fin 256) (i j : Fin 10) : val_main_v284 (F := Ideal) x (ix4 n k i j) = px (fun k i j => x (ix4 n k i j)) k i.val j.val :=
    pad_px x _ (fun _ => sitofp_zero) _ _ n k i j
  unfold hid
  pointwise [
    val_main_v285, val_main_v286, val_main_v287, val_main_v288, val_main_v289, val_main_v290, val_main_v291, val_main_v292, val_main_v293,
    val_main_v294, val_main_v295, val_main_v296, val_main_v297, val_main_v298, val_main_v299, val_main_v300, val_main_v301, val_main_v302,
    val_main_v303, val_main_v304, val_main_v305, val_main_v306, val_main_v307, val_main_v308, val_main_v309, val_main_v310, val_main_v311,
    val_main_v312, val_main_v313, val_main_v314, val_main_v315, val_main_v316, val_main_v317, val_main_v318, val_main_v319, val_main_v320,
    val_main_v321, val_main_v322, val_main_v323, val_main_v324, val_main_v325, val_main_v326, val_main_v327, val_main_v328, val_main_v329,
    val_main_v330, val_main_v331, val_main_v332, val_main_v333, val_main_v334, val_main_v335, val_main_v336, val_main_v337, val_main_v338,
    val_main_v339, val_main_v340, val_main_v341, val_main_v342, val_main_cst_7]
  simp only [hp, Fin.sum_univ_three, Fin.val_zero, Fin.val_one, Fin.val_two, Nat.add_zero, Nat.add_comm 1, Nat.add_comm 2, mul_comm, add_assoc]

/-- Level 4: score `a` at a pixel of image `n`. -/
theorem score4 (x : FVec Ideal S2x256x8x8 .f32) (w : FVec Ideal S256x256x3x3 .f32) (b : FVec Ideal S256 .f32) (wc : FVec Ideal S3x256x1x1 .f32)
    (bc : FVec Ideal S3 .f32) (n : Fin 2) (a : Fin 3) (i j : Fin 8) :
    val_main_v348 (F := Ideal) x w b wc bc (ix4 n a i j)
      = head (fun k i j => x (ix4 n k i j)) (fun co k dy dx => w (ix4 co k dy dx)) (fun co => b (ix1 co)) (fun co => wc (ix4 a co 0 0)) (bc (ix1 a))
          i.val j.val := by
  unfold head
  pointwise [
    val_main_v343, val_main_v344, val_main_v345, val_main_v346, val_main_v347, val_main_v348]
  simp only [hid4, mul_comm]

/-- Level 4: box number `a` at a pixel of image `n`. -/
theorem box4 (x : FVec Ideal S2x256x8x8 .f32) (w : FVec Ideal S256x256x3x3 .f32) (b : FVec Ideal S256 .f32) (wb : FVec Ideal S12x256x1x1 .f32)
    (bb : FVec Ideal S12 .f32) (n : Fin 2) (a : Fin 12) (i j : Fin 8) :
    val_main_v354 (F := Ideal) x w b wb bb (ix4 n a i j)
      = head (fun k i j => x (ix4 n k i j)) (fun co k dy dx => w (ix4 co k dy dx)) (fun co => b (ix1 co)) (fun co => wb (ix4 a co 0 0)) (bb (ix1 a))
          i.val j.val := by
  unfold head
  pointwise [
    val_main_v349, val_main_v350, val_main_v351, val_main_v352, val_main_v353, val_main_v354]
  simp only [hid4, mul_comm]

end Cert.ReferenceIdeal.Levels

end
-- ==== Proof.Scratch.lean ====
/- Reading a scratch buffer after a list of stores, coordinate by coordinate: the flat copy of the image and the widened tile, whatever was stored before. -/
module

public import proofs.«01_k».proof.Proof.Tiles

@[expose] public section

set_option maxRecDepth 16384

noncomputable section

namespace Cert.Spec

open Idealize.ShloMosaic

/-- The last store, read at a row and a column: its payload where it stored, the earlier stores elsewhere. -/
theorem canon_block {N M n m a b : ℕ} (inb : ∀ d, (![a, b] : Fin 2 → ℕ) d + (![n, m] : Fin 2 → ℕ) d ≤ (![N, M] : Fin 2 → ℕ) d)
    (p : FVec Ideal ⟨2, ![n, m]⟩ .bf16) (L : List (View.Piece (Elt Ideal) ⟨2, ![N, M]⟩ .bf16)) (i : Fin N) (j : Fin M) (v : EReal)
    (hin : ∀ (i' : Fin n) (j' : Fin m), i.val = a + i'.val → j.val = b + j'.val → p (ix2 i' j') = v)
    (hout : ¬ ((a ≤ i.val ∧ i.val < a + n) ∧ (b ≤ j.val ∧ j.val < b + m)) → (View.canon L : FVec Ideal ⟨2, ![N, M]⟩ .bf16) (ix2 i j) = v) :
    (View.canon (⟨Rect.unit (s := ⟨2, ![N, M]⟩) ![a, b] ![n, m] inb, p⟩ :: L) : FVec Ideal ⟨2, ![N, M]⟩ .bf16) (ix2 i j) = v := by
  by_cases h : (a ≤ i.val ∧ i.val < a + n) ∧ (b ≤ j.val ∧ j.val < b + m)
  · have e : (ix2 i j : (⟨2, ![N, M]⟩ : Shape).Idx)
        = (Rect.unit (s := ⟨2, ![N, M]⟩) ![a, b] ![n, m] inb).emb (ix2 (⟨i.val - a, by omega⟩ : Fin n) (⟨j.val - b, by omega⟩ : Fin m)) := by
      refine funext fun d => Fin.ext ?_
      fin_cases d
      · show i.val = a + 1 * (i.val - a); omega
      · show j.val = b + 1 * (j.val - b); omega
    rw [e]
    refine (View.canon_cons_emb _ _ _ _).trans ?_
    exact hin _ _ (show i.val = a + (i.val - a) by omega) (show j.val = b + (j.val - b) by omega)
  · refine (View.canon_cons_of_not_mem _ _ fun hm => h ?_).trans (hout h)
    have hm := (Rect.mem_set_unit (inb := inb)).mp hm
    exact ⟨hm 0, hm 1⟩

/-- A load of a block of rows and columns after a list of stores, read at a row and a column. -/
theorem readCov_block {sig : RefSig} {κ : Kind} {sp : Space} {N M n m a b : ℕ} (v : View sig κ sp ⟨2, ![N, M]⟩ .bf16)
    (inb : ∀ d, (![a, b] : Fin 2 → ℕ) d + (![n, m] : Fin 2 → ℕ) d ≤ (![N, M] : Fin 2 → ℕ) d)
    (L : List (View.Piece (Elt Ideal) ⟨2, ![N, M]⟩ .bf16)) (i : Fin n) (j : Fin m) (w : EReal)
    (h : ∀ (i' : Fin N) (j' : Fin M), i'.val = a + i.val → j'.val = b + j.val → (View.canon L : FVec Ideal ⟨2, ![N, M]⟩ .bf16) (ix2 i' j') = w) :
    (v.readCov L (Rect.unit (s := ⟨2, ![N, M]⟩) ![a, b] ![n, m] inb).toLoadRect : FVec Ideal ⟨2, ![n, m]⟩ .bf16) (ix2 i j) = w := by
  rw [View.readCov_eq_canon']
  have h0 : a + n ≤ N := inb 0
  have h1 : b + m ≤ M := inb 1
  have e : (Rect.unit (s := ⟨2, ![N, M]⟩) ![a, b] ![n, m] inb).toLoadRect.idx (ix2 i j)
      = (ix2 (⟨a + i.val, by have := i.isLt; omega⟩ : Fin N) (⟨b + j.val, by have := j.isLt; omega⟩ : Fin M) : (⟨2, ![N, M]⟩ : Shape).Idx) := by
    refine funext fun d => Fin.ext ?_
    fin_cases d
    · show a + 1 * i.val = a + i.val; omega
    · show b + 1 * j.val = b + j.val; omega
  show (View.canon L : FVec Ideal ⟨2, ![N, M]⟩ .bf16) _ = w
  rw [e]
  exact h _ _ rfl rfl

variable {H W : ℕ}

/-- The flat copy after one more block of whole rows: the block must hold the flat copy's rows, and the earlier stores those outside it. -/
theorem canon_flat (f : Fin 256 → Fin H → Fin W → EReal) {N n a : ℕ}
    (inb : ∀ d, (![a, 0] : Fin 2 → ℕ) d + (![n, 256] : Fin 2 → ℕ) d ≤ (![N, 256] : Fin 2 → ℕ) d)
    (p : FVec Ideal ⟨2, ![n, 256]⟩ .bf16) (L : List (View.Piece (Elt Ideal) ⟨2, ![N, 256]⟩ .bf16)) (ρ : Fin N) (k : Fin 256)
    (hp : ∀ (r : Fin n) (k : Fin 256), p (ix2 r k) = flat f (a + r.val) k)
    (hL : ρ.val < a ∨ a + n ≤ ρ.val → (View.canon L : FVec Ideal ⟨2, ![N, 256]⟩ .bf16) (ix2 ρ k) = flat f ρ.val k) :
    (View.canon (⟨Rect.unit (s := ⟨2, ![N, 256]⟩) ![a, 0] ![n, 256] inb, p⟩ :: L) : FVec Ideal ⟨2, ![N, 256]⟩ .bf16) (ix2 ρ k) = flat f ρ.val k := by
  refine canon_block inb p L ρ k _ (fun i' j' hi hj => ?_) fun hn => hL ?_
  · rw [hp, hi, show j' = k from Fin.ext (by omega)]
  · have := k.isLt; omega

/-- The widened tile after its three blocks of columns, over whatever was stored before. -/
theorem canon_wide (f : Fin 256 → Fin H → Fin W → EReal) (base : ℕ) {n : ℕ}
    (inb2 : ∀ d, (![0, 512] : Fin 2 → ℕ) d + (![n, 256] : Fin 2 → ℕ) d ≤ (![n, 768] : Fin 2 → ℕ) d)
    (inb1 : ∀ d, (![0, 256] : Fin 2 → ℕ) d + (![n, 256] : Fin 2 → ℕ) d ≤ (![n, 768] : Fin 2 → ℕ) d)
    (inb0 : ∀ d, (![0, 0] : Fin 2 → ℕ) d + (![n, 256] : Fin 2 → ℕ) d ≤ (![n, 768] : Fin 2 → ℕ) d)
    (p2 p1 p0 : FVec Ideal ⟨2, ![n, 256]⟩ .bf16) (L : List (View.Piece (Elt Ideal) ⟨2, ![n, 768]⟩ .bf16))
    (h2 : ∀ (r : Fin n) (k : Fin 256), p2 (ix2 r k) = px f k (base + r.val / W) (r.val % W + 2))
    (h1 : ∀ (r : Fin n) (k : Fin 256), p1 (ix2 r k) = px f k (base + r.val / W) (r.val % W + 1))
    (h0 : ∀ (r : Fin n) (k : Fin 256), p0 (ix2 r k) = px f k (base + r.val / W) (r.val % W + 0)) (r : Fin n) (x : Fin 768) :
    (View.canon (⟨Rect.unit (s := ⟨2, ![n, 768]⟩) ![0, 512] ![n, 256] inb2, p2⟩ :: ⟨Rect.unit (s := ⟨2, ![n, 768]⟩) ![0, 256] ![n, 256] inb1, p1⟩ ::
        ⟨Rect.unit (s := ⟨2, ![n, 768]⟩) ![0, 0] ![n, 256] inb0, p0⟩ :: L) : FVec Ideal ⟨2, ![n, 768]⟩ .bf16) (ix2 r x) = wide f base r.val x := by
  have key : ∀ (c : ℕ) (p : FVec Ideal ⟨2, ![n, 256]⟩ .bf16) (i' : Fin n) (k : Fin 256), r.val = 0 + i'.val → x.val = c * 256 + k.val →
      (∀ (r : Fin n) (k : Fin 256), p (ix2 r k) = px f k (base + r.val / W) (r.val % W + c)) → p (ix2 i' k) = wide f base r.val x := by
    intro c p i' k hr hx hp
    have := k.isLt
    rw [hp, wide, hr, Nat.zero_add, show x.val / 256 = c by omega]
    congr 1
    exact Fin.ext (show k.val = x.val % 256 by omega)
  have := r.isLt
  have := x.isLt
  refine canon_block inb2 p2 _ r x _ (fun i' k hr hx => key 2 p2 i' k hr (by omega) h2) fun hn2 => ?_
  refine canon_block inb1 p1 _ r x _ (fun i' k hr hx => key 1 p1 i' k hr (by omega) h1) fun hn1 => ?_
  refine canon_block inb0 p0 _ r x _ (fun i' k hr hx => key 0 p0 i' k hr (by omega) h0) fun hn0 => ?_
  omega

/-- A load of whole rows of the flat copy, once the stores before it hold the flat copy on those rows. -/
theorem readCov_flat (f : Fin 256 → Fin H → Fin W → EReal) {sig : RefSig} {κ : Kind} {sp : Space} {N n a : ℕ} (v : View sig κ sp ⟨2, ![N, 256]⟩ .bf16)
    (inb : ∀ d, (![a, 0] : Fin 2 → ℕ) d + (![n, 256] : Fin 2 → ℕ) d ≤ (![N, 256] : Fin 2 → ℕ) d)
    (L : List (View.Piece (Elt Ideal) ⟨2, ![N, 256]⟩ .bf16))
    (h : ∀ (ρ : Fin N) (k : Fin 256), a ≤ ρ.val → ρ.val < a + n → (View.canon L : FVec Ideal ⟨2, ![N, 256]⟩ .bf16) (ix2 ρ k) = flat f ρ.val k)
    (r : Fin n) (k : Fin 256) :
    (v.readCov L (Rect.unit (s := ⟨2, ![N, 256]⟩) ![a, 0] ![n, 256] inb).toLoadRect : FVec Ideal ⟨2, ![n, 256]⟩ .bf16) (ix2 r k) = flat f (a + r.val) k := by
  refine readCov_block v inb L r k _ fun i' j' hi hj => ?_
  have := r.isLt
  rw [h i' j' (by omega) (by omega), hi, show j' = k from Fin.ext (by omega)]

/-- A load of whole rows of the widened tile after its three blocks of columns. -/
theorem readCov_wide (f : Fin 256 → Fin H → Fin W → EReal) (base : ℕ) {sig : RefSig} {κ : Kind} {sp : Space} {n m a : ℕ} (v : View sig κ sp ⟨2, ![n, 768]⟩ .bf16)
    (inb : ∀ d, (![a, 0] : Fin 2 → ℕ) d + (![m, 768] : Fin 2 → ℕ) d ≤ (![n, 768] : Fin 2 → ℕ) d)
    (inb2 : ∀ d, (![0, 512] : Fin 2 → ℕ) d + (![n, 256] : Fin 2 → ℕ) d ≤ (![n, 768] : Fin 2 → ℕ) d)
    (inb1 : ∀ d, (![0, 256] : Fin 2 → ℕ) d + (![n, 256] : Fin 2 → ℕ) d ≤ (![n, 768] : Fin 2 → ℕ) d)
    (inb0 : ∀ d, (![0, 0] : Fin 2 → ℕ) d + (![n, 256] : Fin 2 → ℕ) d ≤ (![n, 768] : Fin 2 → ℕ) d)
    (p2 p1 p0 : FVec Ideal ⟨2, ![n, 256]⟩ .bf16) (L : List (View.Piece (Elt Ideal) ⟨2, ![n, 768]⟩ .bf16))
    (h2 : ∀ (r : Fin n) (k : Fin 256), p2 (ix2 r k) = px f k (base + r.val / W) (r.val % W + 2))
    (h1 : ∀ (r : Fin n) (k : Fin 256), p1 (ix2 r k) = px f k (base + r.val / W) (r.val % W + 1))
    (h0 : ∀ (r : Fin n) (k : Fin 256), p0 (ix2 r k) = px f k (base + r.val / W) (r.val % W + 0)) (r : Fin m) (x : Fin 768) :
    (v.readCov (⟨Rect.unit (s := ⟨2, ![n, 768]⟩) ![0, 512] ![n, 256] inb2, p2⟩ :: ⟨Rect.unit (s := ⟨2, ![n, 768]⟩) ![0, 256] ![n, 256] inb1, p1⟩ ::
        ⟨Rect.unit (s := ⟨2, ![n, 768]⟩) ![0, 0] ![n, 256] inb0, p0⟩ :: L) (Rect.unit (s := ⟨2, ![n, 768]⟩) ![a, 0] ![m, 768] inb).toLoadRect :
        FVec Ideal ⟨2, ![m, 768]⟩ .bf16) (ix2 r x) = wide f base (a + r.val) x := by
  refine readCov_block v inb _ r x _ fun i' j' hi hj => ?_
  rw [canon_wide f base inb2 inb1 inb0 p2 p1 p0 L h2 h1 h0, hi, show j' = x from Fin.ext (by omega)]

/-- The output block after one more store of whole image rows, read at a pixel and a channel: its payload where it stored, the earlier stores elsewhere. -/
theorem canon_rows {h w n a : ℕ} (inb : ∀ d, (![0, a, 0, 0] : Fin 4 → ℕ) d + (![1, n, w, 16] : Fin 4 → ℕ) d ≤ (![1, h, w, 16] : Fin 4 → ℕ) d)
    (p : FVec Ideal ⟨4, ![1, n, w, 16]⟩ .f32) (L : List (View.Piece (Elt Ideal) ⟨4, ![1, h, w, 16]⟩ .f32)) (i : Fin h) (j : Fin w) (o : Fin 16) (v : EReal)
    (hin : ∀ i' : Fin n, i.val = a + i'.val → p (ix4 0 i' j o) = v)
    (hout : i.val < a ∨ a + n ≤ i.val → (View.canon L : FVec Ideal ⟨4, ![1, h, w, 16]⟩ .f32) (ix4 0 i j o) = v) :
    (View.canon (⟨Rect.unit (s := ⟨4, ![1, h, w, 16]⟩) ![0, a, 0, 0] ![1, n, w, 16] inb, p⟩ :: L) : FVec Ideal ⟨4, ![1, h, w, 16]⟩ .f32) (ix4 0 i j o) = v := by
  by_cases hi : a ≤ i.val ∧ i.val < a + n
  · have e : (ix4 0 i j o : (⟨4, ![1, h, w, 16]⟩ : Shape).Idx)
        = (Rect.unit (s := ⟨4, ![1, h, w, 16]⟩) ![0, a, 0, 0] ![1, n, w, 16] inb).emb (ix4 (0 : Fin 1) (⟨i.val - a, by omega⟩ : Fin n) j o) := by
      refine funext fun d => Fin.ext ?_
      fin_cases d
      · rfl
      · show i.val = a + 1 * (i.val - a); omega
      · show j.val = 0 + 1 * j.val; omega
      · show o.val = 0 + 1 * o.val; omega
    rw [e]
    refine (View.canon_cons_emb _ _ _ _).trans ?_
    exact hin _ (show i.val = a + (i.val - a) by omega)
  · refine (View.canon_cons_of_not_mem _ _ fun hm => hi ?_).trans (hout (by omega))
    exact (Rect.mem_set_unit (inb := inb)).mp hm 1

end Cert.Spec

end
-- ==== Proof.Level0.lean ====
/- Level 0 of the pyramid (maps of 128×128 pixels): what the launch leaves in its result array. -/
module

public import proofs.«01_k».proof.Proof.Scratch
public import proofs.«01_k».proof.Proof.Gen.KernelIdeal.Frame
public import Idealize.ShloMosaic.Lib.Pipeline.ValueKit

@[expose] public section

set_option maxRecDepth 16384

noncomputable section

namespace Cert.KernelIdeal.Level0

open Cert.KernelIdeal Cert.KernelIdeal.Gen Cert.Spec Idealize.ShloMosaic Idealize.ShloMosaic.TcCoe Idealize.SL.Sem
open Idealize.ShloMosaic.Pipeline (Dat)

/-- The zero rows stored above the image are the first rows of the flattened bordered image. -/
theorem head_rows (f : Fin 256 → Fin 128 → Fin 128 → EReal) (r : Fin 136) (k : Fin 256) : k0_pay2 (F := Ideal) (ix2 r k) = flat f (0 + r.val) k := by
  rw [flat_head f (by decide) _ _ (by omega)]
  pointwise [k0_pay2]

/-- The zero rows stored below the image are its last rows. -/
theorem tail_rows (f : Fin 256 → Fin 128 → Fin 128 → EReal) (r : Fin 136) (k : Fin 256) : k0_pay3 (F := Ideal) (ix2 r k) = flat f (16520 + r.val) k := by
  rw [flat_tail f (by decide)]
  pointwise [k0_pay3]

/-- The stored pixels, channels last, of the image rows from `base` on are the rows of the flattened bordered image that belong to them. -/
theorem image_rows (f : Fin 256 → Fin 128 → Fin 128 → EReal) (base : ℕ) (hb : base + 32 ≤ 128) (x : FVec Ideal S1x256x32x128 .bf16)
    (hx : ∀ k (i : Fin 32) (j : Fin 128), x (ix4 0 k i j) = f k ⟨base + i.val, by omega⟩ j) (r : Fin 4096) (k : Fin 256) :
    k0_pay9 (F := Ideal) x (ix2 r k) = flat f (8 + (base + 1) * 128 + r.val) k := by
  rw [flat_image f (by decide) base r.val k (by omega)]
  pointwise [k0_pay9]
  exact hx _ _ _

/-- The rows one pixel to the left, with the pixels of column 0 replaced by zero, are the left neighbours in the bordered image. -/
theorem left_cols (f : Fin 256 → Fin 128 → Fin 128 → EReal) (base : ℕ) (v : FVec Ideal S4352x256 .bf16)
    (hv : ∀ r k, v (ix2 r k) = flat f (7 + base * 128 + r.val) k) (r : Fin 4352) (k : Fin 256) :
    k0_pay11 (F := Ideal) k0_pay5 v (ix2 r k) = px f k (base + r.val / 128) (r.val % 128 + 0) := by
  rw [← flat_left f (by decide), ← hv]
  pointwise [k0_pay11, k0_pay5, k0_pay4]
  exact mask_low 7 r.val 0 (by omega) (by decide) (by decide) _

/-- The rows as they lie are the pixels in the middle column of each 3×3 window. -/
theorem mid_cols (f : Fin 256 → Fin 128 → Fin 128 → EReal) (base : ℕ) (v : FVec Ideal S4352x256 .bf16)
    (hv : ∀ r k, v (ix2 r k) = flat f (8 + base * 128 + r.val) k) (r : Fin 4352) (k : Fin 256) :
    k0_pay12 (F := Ideal) v (ix2 r k) = px f k (base + r.val / 128) (r.val % 128 + 1) := by
  rw [← flat_row f (by decide), ← hv]
  pointwise [k0_pay12]

/-- The rows one pixel to the right, with the pixels of the last column replaced by zero, are the right neighbours in the bordered image. -/
theorem right_cols (f : Fin 256 → Fin 128 → Fin 128 → EReal) (base : ℕ) (v : FVec Ideal S4352x256 .bf16)
    (hv : ∀ r k, v (ix2 r k) = flat f (9 + base * 128 + r.val) k) (r : Fin 4352) (k : Fin 256) :
    k0_pay13 (F := Ideal) k0_pay6 v (ix2 r k) = px f k (base + r.val / 128) (r.val % 128 + 2) := by
  rw [← flat_right f (by decide), ← hv]
  pointwise [k0_pay13, k0_pay6, k0_pay4]
  exact mask_low 7 r.val 127 (by omega) (by decide) (by decide) _

/-- A chunk of output rows from `base` on: three products with the three bands of the packed weights, the bias, the cut at zero and the head give the level's
    value at every pixel and channel. -/
theorem chunk (base : ℕ) (x : FVec Ideal S1x256x128x128 .bf16) (wk : FVec Ideal S3x768x256 .bf16) (bc : FVec Ideal S1x256 .f32) (wh : FVec Ideal S256x16 .bf16) (bh : FVec Ideal S1x16 .f32)
    (a b c : FVec Ideal S4096x768 .bf16) (p q r : FVec Ideal S1x768x256 .bf16)
    (ha : ∀ r y, a (ix2 r y) = wide (img x) base (0 + r.val) y) (hb : ∀ r y, b (ix2 r y) = wide (img x) base (128 + r.val) y)
    (hc : ∀ r y, c (ix2 r y) = wide (img x) base (256 + r.val) y)
    (hp : ∀ y co, p (ix3 0 y co) = wk (ix3 0 y co)) (hq : ∀ y co, q (ix3 0 y co) = wk (ix3 1 y co)) (hr : ∀ y co, r (ix3 0 y co) = wk (ix3 2 y co))
    (i : Fin 32) (j : Fin 128) (o : Fin 16) :
    k0_pay15 (F := Ideal) (k0_pay7 bc) (k0_pay8 bh) (k0_pay14 a p) b q c r wh (ix4 0 i j o) = level x wk bc wh bh (base + i.val) j.val o := by
  pointwise [k0_pay15, k0_pay7, k0_pay8, k0_pay14]
  refine level_of_wide x wk bc wh bh base i.val j.val j.isLt o _ _ _ (fun y => ?_) (fun y => ?_) (fun y => ?_) _ _ _ hp hq hr
  · exact ha _ y
  · exact hb _ y
  · exact hc _ y

/-- The second chunk's block: the same computation, with the hidden rows named first. -/
theorem chunk_1 (base : ℕ) (x : FVec Ideal S1x256x128x128 .bf16) (wk : FVec Ideal S3x768x256 .bf16) (bc : FVec Ideal S1x256 .f32) (wh : FVec Ideal S256x16 .bf16) (bh : FVec Ideal S1x16 .f32)
    (a b c : FVec Ideal S4096x768 .bf16) (p q r : FVec Ideal S1x768x256 .bf16)
    (ha : ∀ r y, a (ix2 r y) = wide (img x) base (0 + r.val) y) (hb : ∀ r y, b (ix2 r y) = wide (img x) base (128 + r.val) y)
    (hc : ∀ r y, c (ix2 r y) = wide (img x) base (256 + r.val) y)
    (hp : ∀ y co, p (ix3 0 y co) = wk (ix3 0 y co)) (hq : ∀ y co, q (ix3 0 y co) = wk (ix3 1 y co)) (hr : ∀ y co, r (ix3 0 y co) = wk (ix3 2 y co))
    (i : Fin 32) (j : Fin 128) (o : Fin 16) :
    k0_pay21 (F := Ideal) (k0_pay7 bc) (k0_pay8 bh) (k0_pay20 a p b q c r) wh (ix4 0 i j o) = level x wk bc wh bh (base + i.val) j.val o :=
  chunk base x wk bc wh bh a b c p q r ha hb hc hp hq hr i j o

/-- The third chunk's block: the same computation, with the rows named before the store's shape. -/
theorem chunk_2 (base : ℕ) (x : FVec Ideal S1x256x128x128 .bf16) (wk : FVec Ideal S3x768x256 .bf16) (bc : FVec Ideal S1x256 .f32) (wh : FVec Ideal S256x16 .bf16) (bh : FVec Ideal S1x16 .f32)
    (a b c : FVec Ideal S4096x768 .bf16) (p q r : FVec Ideal S1x768x256 .bf16)
    (ha : ∀ r y, a (ix2 r y) = wide (img x) base (0 + r.val) y) (hb : ∀ r y, b (ix2 r y) = wide (img x) base (128 + r.val) y)
    (hc : ∀ r y, c (ix2 r y) = wide (img x) base (256 + r.val) y)
    (hp : ∀ y co, p (ix3 0 y co) = wk (ix3 0 y co)) (hq : ∀ y co, q (ix3 0 y co) = wk (ix3 1 y co)) (hr : ∀ y co, r (ix3 0 y co) = wk (ix3 2 y co))
    (i : Fin 32) (j : Fin 128) (o : Fin 16) :
    k0_pay27 (F := Ideal) (k0_pay26 (k0_pay7 bc) (k0_pay8 bh) a p b q c r wh) (ix4 0 i j o) = level x wk bc wh bh (base + i.val) j.val o :=
  chunk base x wk bc wh bh a b c p q r ha hb hc hp hq hr i j o

/-- The fourth chunk's block: the same computation, with the sum of two bands named first. -/
theorem chunk_3 (base : ℕ) (x : FVec Ideal S1x256x128x128 .bf16) (wk : FVec Ideal S3x768x256 .bf16) (bc : FVec Ideal S1x256 .f32) (wh : FVec Ideal S256x16 .bf16) (bh : FVec Ideal S1x16 .f32)
    (a b c : FVec Ideal S4096x768 .bf16) (p q r : FVec Ideal S1x768x256 .bf16)
    (ha : ∀ r y, a (ix2 r y) = wide (img x) base (0 + r.val) y) (hb : ∀ r y, b (ix2 r y) = wide (img x) base (128 + r.val) y)
    (hc : ∀ r y, c (ix2 r y) = wide (img x) base (256 + r.val) y)
    (hp : ∀ y co, p (ix3 0 y co) = wk (ix3 0 y co)) (hq : ∀ y co, q (ix3 0 y co) = wk (ix3 1 y co)) (hr : ∀ y co, r (ix3 0 y co) = wk (ix3 2 y co))
    (i : Fin 32) (j : Fin 128) (o : Fin 16) :
    k0_pay1 (F := Ideal) (k0_pay7 bc) (k0_pay8 bh) (k0_pay31 a p b q) c r wh (ix4 0 i j o) = level x wk bc wh bh (base + i.val) j.val o :=
  chunk base x wk bc wh bh a b c p q r ha hb hc hp hq hr i j o

set_option maxHeartbeats 1000000 in
/-- The block the body leaves for one image holds the level's value at every pixel and channel. -/
theorem out (V : (c : Dev nD) → (b : Ref sig .tc) → Buf (Elt Ideal) ((c : Thread nD τ).loc b)) (c : Dev nD) (t : Fin cfg0.N) (i j : Fin 128) (o : Fin 16) :
    (show FVec Ideal S1x128x128x16 .f32 from outsAt0 V c t) (ix4 0 i j o)
      = level (iblk0 V c 0 t) (iblk0 V c 1 t) (iblk0 V c 2 t) (iblk0 V c 3 t) (iblk0 V c 4 t) i j o := by
  unfold outsAt0
  frame_open
  simp (disch := decide) only [View.read_writes_junk_eq_canon, View.readAt_eq_ld, Memref.IsWhole.read_unread, View.ld_unit_lit']
  generalize (iblk0 V c 0 t) = x
  generalize (iblk0 V c 1 t) = wk
  refine canon_rows _ _ _ i j o _ (fun i' hi => ?_) fun h => canon_rows _ _ _ i j o _ (fun i' hi => ?_) fun h' =>
    canon_rows _ _ _ i j o _ (fun i' hi => ?_) fun h => canon_rows _ _ _ i j o _ (fun i' hi => ?_) fun h' => by omega
  · refine (chunk_3 96 x wk _ _ _ _ _ _ _ _ _ (fun r y => ?_) (fun r y => ?_) (fun r y => ?_) (fun y co => ?_) (fun y co => ?_) (fun y co => ?_) i' j o).trans (by rw [hi])
    iterate 3
      refine readCov_wide (img x) 96 _ _ _ _ _ _ _ _ _ (right_cols _ 96 _ (readCov_flat _ _ _ _ fun ρ k hl hh => ?_)) (mid_cols _ 96 _ (readCov_flat _ _ _ _ fun ρ k hl hh => ?_))
        (left_cols _ 96 _ (readCov_flat _ _ _ _ fun ρ k hl hh => ?_)) r y
      iterate 3
        refine canon_flat _ _ _ _ ρ k (image_rows _ 96 (by decide) _ fun k i j => ?_) fun h96 => ?_
        · pointwise
        refine canon_flat _ _ _ _ ρ k (image_rows _ 64 (by decide) _ fun k i j => ?_) fun h64 => ?_
        · pointwise
        refine canon_flat _ _ _ _ ρ k (image_rows _ 32 (by decide) _ fun k i j => ?_) fun h32 => ?_
        · pointwise
        refine canon_flat _ _ _ _ ρ k (image_rows _ 0 (by decide) _ fun k i j => ?_) fun h0 => ?_
        · pointwise
        refine canon_flat _ _ _ _ ρ k (tail_rows _) fun ht => ?_
        refine canon_flat _ _ _ _ ρ k (head_rows _) fun hh => ?_
        omega
    · pointwise
    · pointwise
    · pointwise
  · refine (chunk_2 64 x wk _ _ _ _ _ _ _ _ _ (fun r y => ?_) (fun r y => ?_) (fun r y => ?_) (fun y co => ?_) (fun y co => ?_) (fun y co => ?_) i' j o).trans (by rw [hi])
    iterate 3
      refine readCov_wide (img x) 64 _ _ _ _ _ _ _ _ _ (right_cols _ 64 _ (readCov_flat _ _ _ _ fun ρ k hl hh => ?_)) (mid_cols _ 64 _ (readCov_flat _ _ _ _ fun ρ k hl hh => ?_))
        (left_cols _ 64 _ (readCov_flat _ _ _ _ fun ρ k hl hh => ?_)) r y
      iterate 3
        refine canon_flat _ _ _ _ ρ k (image_rows _ 96 (by decide) _ fun k i j => ?_) fun h96 => ?_
        · pointwise
        refine canon_flat _ _ _ _ ρ k (image_rows _ 64 (by decide) _ fun k i j => ?_) fun h64 => ?_
        · pointwise
        refine canon_flat _ _ _ _ ρ k (image_rows _ 32 (by decide) _ fun k i j => ?_) fun h32 => ?_
        · pointwise
        refine canon_flat _ _ _ _ ρ k (image_rows _ 0 (by decide) _ fun k i j => ?_) fun h0 => ?_
        · pointwise
        refine canon_flat _ _ _ _ ρ k (tail_rows _) fun ht => ?_
        refine canon_flat _ _ _ _ ρ k (head_rows _) fun hh => ?_
        omega
    · pointwise
    · pointwise
    · pointwise
  · refine (chunk_1 32 x wk _ _ _ _ _ _ _ _ _ (fun r y => ?_) (fun r y => ?_) (fun r y => ?_) (fun y co => ?_) (fun y co => ?_) (fun y co => ?_) i' j o).trans (by rw [hi])
    iterate 3
      refine readCov_wide (img x) 32 _ _ _ _ _ _ _ _ _ (right_cols _ 32 _ (readCov_flat _ _ _ _ fun ρ k hl hh => ?_)) (mid_cols _ 32 _ (readCov_flat _ _ _ _ fun ρ k hl hh => ?_))
        (left_cols _ 32 _ (readCov_flat _ _ _ _ fun ρ k hl hh => ?_)) r y
      iterate 3
        refine canon_flat _ _ _ _ ρ k (image_rows _ 64 (by decide) _ fun k i j => ?_) fun h64 => ?_
        · pointwise
        refine canon_flat _ _ _ _ ρ k (image_rows _ 32 (by decide) _ fun k i j => ?_) fun h32 => ?_
        · pointwise
        refine canon_flat _ _ _ _ ρ k (image_rows _ 0 (by decide) _ fun k i j => ?_) fun h0 => ?_
        · pointwise
        refine canon_flat _ _ _ _ ρ k (tail_rows _) fun ht => ?_
        refine canon_flat _ _ _ _ ρ k (head_rows _) fun hh => ?_
        omega
    · pointwise
    · pointwise
    · pointwise
  · refine (chunk 0 x wk _ _ _ _ _ _ _ _ _ (fun r y => ?_) (fun r y => ?_) (fun r y => ?_) (fun y co => ?_) (fun y co => ?_) (fun y co => ?_) i' j o).trans (by rw [hi])
    iterate 3
      refine readCov_wide (img x) 0 _ _ _ _ _ _ _ _ _ (right_cols _ 0 _ (readCov_flat _ _ _ _ fun ρ k hl hh => ?_)) (mid_cols _ 0 _ (readCov_flat _ _ _ _ fun ρ k hl hh => ?_))
        (left_cols _ 0 _ (readCov_flat _ _ _ _ fun ρ k hl hh => ?_)) r y
      iterate 3
        refine canon_flat _ _ _ _ ρ k (image_rows _ 32 (by decide) _ fun k i j => ?_) fun h32 => ?_
        · pointwise
        refine canon_flat _ _ _ _ ρ k (image_rows _ 0 (by decide) _ fun k i j => ?_) fun h0 => ?_
        · pointwise
        refine canon_flat _ _ _ _ ρ k (tail_rows _) fun ht => ?_
        refine canon_flat _ _ _ _ ρ k (head_rows _) fun hh => ?_
        omega
    · pointwise
    · pointwise
    · pointwise

/-- Which block each window is at, at every point of the grid: point `t` has image `t`; weights and biases are whole. -/
theorem idx : ∀ t : Fin cfg0.N, win0_0.index t = ![t.val, 0, 0, 0] ∧ win0_1.index t = ![0, 0, 0] ∧ win0_2.index t = ![0, 0]
    ∧ win0_3.index t = ![0, 0] ∧ win0_4.index t = ![0, 0] ∧ win0_5.index t = ![t.val, 0, 0, 0] :=
  (by decide +kernel : ∀ t : Fin grid0.N, _)

/-- The packed weights come whole. -/
theorem block_wk (V : (c : Dev nD) → (b : Ref sig .tc) → Buf (Elt Ideal) ((c : Thread nD τ).loc b)) (c : Dev nD) (t : Fin cfg0.N) : iblk0 V c 1 t = V c main_v2 := by blk_ext! [iblk0, idx t]

/-- The hidden map's bias comes whole. -/
theorem block_bc (V : (c : Dev nD) → (b : Ref sig .tc) → Buf (Elt Ideal) ((c : Thread nD τ).loc b)) (c : Dev nD) (t : Fin cfg0.N) : iblk0 V c 2 t = V c main_v11 := by blk_ext! [iblk0, idx t]

/-- The head's weights come whole. -/
theorem block_wh (V : (c : Dev nD) → (b : Ref sig .tc) → Buf (Elt Ideal) ((c : Thread nD τ).loc b)) (c : Dev nD) (t : Fin cfg0.N) : iblk0 V c 3 t = V c main_v8 := by blk_ext! [iblk0, idx t]

/-- The head's bias comes whole. -/
theorem block_bh (V : (c : Dev nD) → (b : Ref sig .tc) → Buf (Elt Ideal) ((c : Thread nD τ).loc b)) (c : Dev nD) (t : Fin cfg0.N) : iblk0 V c 4 t = V c main_v12 := by blk_ext! [iblk0, idx t]

/-- Point `t` is given image `t` of the batch. -/
theorem block_image (V : (c : Dev nD) → (b : Ref sig .tc) → Buf (Elt Ideal) ((c : Thread nD τ).loc b)) (c : Dev nD) (t : Fin cfg0.N) (k : Fin 256) (a b : Fin 128) :
    (show FVec Ideal S1x256x128x128 .bf16 from iblk0 V c 0 t) (ix4 0 k a b) = (show FVec Ideal S2x256x128x128 .bf16 from V c main_v13) (ix4 ⟨t.val, t.isLt⟩ k a b) := by
  blk_ext [iblk0, idx t]

/-- Point `t`'s output block lies at image `t` of the result. -/
theorem placed (t : Fin cfg0.N) (i j : Fin 128) (o : Fin 16) : (win0_5.blk t).view.emb (ix4 0 i j o) = (show S2x128x128x16.Idx from ix4 ⟨t.val, t.isLt⟩ i j o) := by
  blk_ext [idx t]

/-- After the launch the result array holds the level's value for every image, pixel and channel. -/
theorem array (V : (c : Dev nD) → (b : Ref sig .tc) → Buf (Elt Ideal) ((c : Thread nD τ).loc b)) (c : Dev nD) (n : Fin 2) (i j : Fin 128) (o : Fin 16) :
    (show FVec Ideal S2x128x128x16 .f32 from (dat0 V c).arrAt 5 cfg0.N) (ix4 n i j o)
      = maps (V c main_v13) (V c main_v2) (V c main_v11) (V c main_v8) (V c main_v12) n i.val j.val o := by
  suffices h : (dat0 V c).arrAt 5 cfg0.N = fun y : S2x128x128x16.Idx =>
      maps (V c main_v13) (V c main_v2) (V c main_v11) (V c main_v8) (V c main_v12) (y 0) (y 1).val (y 2).val (y 3) from congrFun h _
  refine (dat0 V c).arrAt_eq_of_covers 5 _ (by decide +kernel) fun t hf y => ?_
  obtain ⟨a, i, j, o, rfl⟩ : ∃ (a : Fin 1) (i j : Fin 128) (o : Fin 16), y = ix4 a i j o := ⟨y 0, y 1, y 2, y 3, by funext q; fin_cases q <;> rfl⟩
  obtain rfl : a = 0 := Subsingleton.elim _ _
  blk_simp
  rw [after0_5]
  refine (out V c t i j o).trans ?_
  rw [block_wk, block_bc, block_wh, block_bh, show win0_5.index t 1 = 0 from congrFun (idx t).2.2.2.2.2 1,
    show win0_5.index t 2 = 0 from congrFun (idx t).2.2.2.2.2 2, Nat.zero_mul, Nat.zero_add, Nat.zero_add]
  refine (level_eq_maps _ (V c main_v13) _ _ _ _ ⟨t.val, t.isLt⟩ (block_image V c t) _ _ _).trans ?_
  exact congrArg₂ (fun n o => maps (V c main_v13) (V c main_v2) (V c main_v11) (V c main_v8) (V c main_v12) n i.val j.val o)
    (congrFun (placed t i j o) 0).symm (congrFun (placed t i j o) 3).symm

end Cert.KernelIdeal.Level0

end
-- ==== Proof.Level1.lean ====
/- Level 1 of the pyramid (maps of 64×64 pixels): what the launch leaves in its result array. -/
module

public import proofs.«01_k».proof.Proof.Scratch
public import proofs.«01_k».proof.Proof.Gen.KernelIdeal.Frame
public import Idealize.ShloMosaic.Lib.Pipeline.ValueKit

@[expose] public section

set_option maxRecDepth 16384

noncomputable section

namespace Cert.KernelIdeal.Level1

open Cert.KernelIdeal Cert.KernelIdeal.Gen Cert.Spec Idealize.ShloMosaic Idealize.ShloMosaic.TcCoe Idealize.SL.Sem
open Idealize.ShloMosaic.Pipeline (Dat)

/-- The zero rows stored above the image are the first rows of the flattened bordered image. -/
theorem head_rows (f : Fin 256 → Fin 64 → Fin 64 → EReal) (r : Fin 72) (k : Fin 256) : k1_pay2 (F := Ideal) (ix2 r k) = flat f (0 + r.val) k := by
  rw [flat_head f (by decide) _ _ (by omega)]
  pointwise [k1_pay2]

/-- The zero rows stored below the image are its last rows. -/
theorem tail_rows (f : Fin 256 → Fin 64 → Fin 64 → EReal) (r : Fin 72) (k : Fin 256) : k1_pay3 (F := Ideal) (ix2 r k) = flat f (4168 + r.val) k := by
  rw [flat_tail f (by decide)]
  pointwise [k1_pay3]

/-- The stored pixels, channels last, of the image rows from `base` on are the rows of the flattened bordered image that belong to them. -/
theorem image_rows (f : Fin 256 → Fin 64 → Fin 64 → EReal) (base : ℕ) (hb : base + 32 ≤ 64) (x : FVec Ideal S1x256x32x64 .bf16)
    (hx : ∀ k (i : Fin 32) (j : Fin 64), x (ix4 0 k i j) = f k ⟨base + i.val, by omega⟩ j) (r : Fin 2048) (k : Fin 256) :
    k1_pay9 (F := Ideal) x (ix2 r k) = flat f (8 + (base + 1) * 64 + r.val) k := by
  rw [flat_image f (by decide) base r.val k (by omega)]
  pointwise [k1_pay9]
  exact hx _ _ _

/-- The rows one pixel to the left, with the pixels of column 0 replaced by zero, are the left neighbours in the bordered image. -/
theorem left_cols (f : Fin 256 → Fin 64 → Fin 64 → EReal) (base : ℕ) (v : FVec Ideal S2176x256 .bf16)
    (hv : ∀ r k, v (ix2 r k) = flat f (7 + base * 64 + r.val) k) (r : Fin 2176) (k : Fin 256) :
    k1_pay11 (F := Ideal) k1_pay5 v (ix2 r k) = px f k (base + r.val / 64) (r.val % 64 + 0) := by
  rw [← flat_left f (by decide), ← hv]
  pointwise [k1_pay11, k1_pay5, k1_pay4]
  exact mask_low 6 r.val 0 (by omega) (by decide) (by decide) _

/-- The rows as they lie are the pixels in the middle column of each 3×3 window. -/
theorem mid_cols (f : Fin 256 → Fin 64 → Fin 64 → EReal) (base : ℕ) (v : FVec Ideal S2176x256 .bf16)
    (hv : ∀ r k, v (ix2 r k) = flat f (8 + base * 64 + r.val) k) (r : Fin 2176) (k : Fin 256) :
    k1_pay12 (F := Ideal) v (ix2 r k) = px f k (base + r.val / 64) (r.val % 64 + 1) := by
  rw [← flat_row f (by decide), ← hv]
  pointwise [k1_pay12]

/-- The rows one pixel to the right, with the pixels of the last column replaced by zero, are the right neighbours in the bordered image. -/
theorem right_cols (f : Fin 256 → Fin 64 → Fin 64 → EReal) (base : ℕ) (v : FVec Ideal S2176x256 .bf16)
    (hv : ∀ r k, v (ix2 r k) = flat f (9 + base * 64 + r.val) k) (r : Fin 2176) (k : Fin 256) :
    k1_pay13 (F := Ideal) k1_pay6 v (ix2 r k) = px f k (base + r.val / 64) (r.val % 64 + 2) := by
  rw [← flat_right f (by decide), ← hv]
  pointwise [k1_pay13, k1_pay6, k1_pay4]
  exact mask_low 6 r.val 63 (by omega) (by decide) (by decide) _

/-- A chunk of output rows from `base` on: three products with the three bands of the packed weights, the bias, the cut at zero and the head give the level's
    value at every pixel and channel. -/
theorem chunk (base : ℕ) (x : FVec Ideal S1x256x64x64 .bf16) (wk : FVec Ideal S3x768x256 .bf16) (bc : FVec Ideal S1x256 .f32) (wh : FVec Ideal S256x16 .bf16) (bh : FVec Ideal S1x16 .f32)
    (a b c : FVec Ideal S2048x768 .bf16) (p q r : FVec Ideal S1x768x256 .bf16)
    (ha : ∀ r y, a (ix2 r y) = wide (img x) base (0 + r.val) y) (hb : ∀ r y, b (ix2 r y) = wide (img x) base (64 + r.val) y)
    (hc : ∀ r y, c (ix2 r y) = wide (img x) base (128 + r.val) y)
    (hp : ∀ y co, p (ix3 0 y co) = wk (ix3 0 y co)) (hq : ∀ y co, q (ix3 0 y co) = wk (ix3 1 y co)) (hr : ∀ y co, r (ix3 0 y co) = wk (ix3 2 y co))
    (i : Fin 32) (j : Fin 64) (o : Fin 16) :
    k1_pay15 (F := Ideal) (k1_pay7 bc) (k1_pay8 bh) (k1_pay14 a p) b q c r wh (ix4 0 i j o) = level x wk bc wh bh (base + i.val) j.val o := by
  pointwise [k1_pay15, k1_pay7, k1_pay8, k1_pay14]
  refine level_of_wide x wk bc wh bh base i.val j.val j.isLt o _ _ _ (fun y => ?_) (fun y => ?_) (fun y => ?_) _ _ _ hp hq hr
  · exact ha _ y
  · exact hb _ y
  · exact hc _ y

/-- The second chunk is the same computation, stored in two steps. -/
theorem chunk_second (base : ℕ) (x : FVec Ideal S1x256x64x64 .bf16) (wk : FVec Ideal S3x768x256 .bf16) (bc : FVec Ideal S1x256 .f32) (wh : FVec Ideal S256x16 .bf16) (bh : FVec Ideal S1x16 .f32)
    (a b c : FVec Ideal S2048x768 .bf16) (p q r : FVec Ideal S1x768x256 .bf16)
    (ha : ∀ r y, a (ix2 r y) = wide (img x) base (0 + r.val) y) (hb : ∀ r y, b (ix2 r y) = wide (img x) base (64 + r.val) y)
    (hc : ∀ r y, c (ix2 r y) = wide (img x) base (128 + r.val) y)
    (hp : ∀ y co, p (ix3 0 y co) = wk (ix3 0 y co)) (hq : ∀ y co, q (ix3 0 y co) = wk (ix3 1 y co)) (hr : ∀ y co, r (ix3 0 y co) = wk (ix3 2 y co))
    (i : Fin 32) (j : Fin 64) (o : Fin 16) :
    k1_pay1 (F := Ideal) (k1_pay19 (k1_pay7 bc) a p b q c r wh) (k1_pay20 (k1_pay8 bh)) (ix4 0 i j o) = level x wk bc wh bh (base + i.val) j.val o :=
  chunk base x wk bc wh bh a b c p q r ha hb hc hp hq hr i j o

set_option maxHeartbeats 1000000 in
/-- The block the body leaves for one image holds the level's value at every pixel and channel. -/
theorem out (V : (c : Dev nD) → (b : Ref sig .tc) → Buf (Elt Ideal) ((c : Thread nD τ).loc b)) (c : Dev nD) (t : Fin cfg1.N) (i j : Fin 64) (o : Fin 16) :
    (show FVec Ideal S1x64x64x16 .f32 from outsAt1 V c t) (ix4 0 i j o)
      = level (iblk1 V c 0 t) (iblk1 V c 1 t) (iblk1 V c 2 t) (iblk1 V c 3 t) (iblk1 V c 4 t) i j o := by
  unfold outsAt1
  frame_open
  simp (disch := decide) only [View.read_writes_junk_eq_canon, View.readAt_eq_ld, Memref.IsWhole.read_unread, View.ld_unit_lit']
  generalize (iblk1 V c 0 t) = x
  generalize (iblk1 V c 1 t) = wk
  refine canon_rows _ _ _ i j o _ (fun i' hi => ?_) fun h => canon_rows _ _ _ i j o _ (fun i' hi => ?_) fun h' => by omega
  · refine (chunk_second 32 x wk _ _ _ _ _ _ _ _ _ (fun r y => ?_) (fun r y => ?_) (fun r y => ?_) (fun y co => ?_) (fun y co => ?_) (fun y co => ?_) i' j o).trans (by rw [hi])
    iterate 3
      refine readCov_wide (img x) 32 _ _ _ _ _ _ _ _ _ (right_cols _ 32 _ (readCov_flat _ _ _ _ fun ρ k hl hh => ?_)) (mid_cols _ 32 _ (readCov_flat _ _ _ _ fun ρ k hl hh => ?_))
        (left_cols _ 32 _ (readCov_flat _ _ _ _ fun ρ k hl hh => ?_)) r y
      iterate 3
        refine canon_flat _ _ _ _ ρ k (image_rows _ 32 (by decide) _ fun k i j => ?_) fun h1 => ?_
        · pointwise
        refine canon_flat _ _ _ _ ρ k (image_rows _ 0 (by decide) _ fun k i j => ?_) fun h2 => ?_
        · pointwise
        refine canon_flat _ _ _ _ ρ k (tail_rows _) fun h3 => ?_
        refine canon_flat _ _ _ _ ρ k (head_rows _) fun h4 => ?_
        omega
    · pointwise
    · pointwise
    · pointwise
  · refine (chunk 0 x wk _ _ _ _ _ _ _ _ _ (fun r y => ?_) (fun r y => ?_) (fun r y => ?_) (fun y co => ?_) (fun y co => ?_) (fun y co => ?_) i' j o).trans (by rw [hi])
    iterate 3
      refine readCov_wide (img x) 0 _ _ _ _ _ _ _ _ _ (right_cols _ 0 _ (readCov_flat _ _ _ _ fun ρ k hl hh => ?_)) (mid_cols _ 0 _ (readCov_flat _ _ _ _ fun ρ k hl hh => ?_))
        (left_cols _ 0 _ (readCov_flat _ _ _ _ fun ρ k hl hh => ?_)) r y
      iterate 3
        refine canon_flat _ _ _ _ ρ k (image_rows _ 32 (by decide) _ fun k i j => ?_) fun h1 => ?_
        · pointwise
        refine canon_flat _ _ _ _ ρ k (image_rows _ 0 (by decide) _ fun k i j => ?_) fun h2 => ?_
        · pointwise
        refine canon_flat _ _ _ _ ρ k (tail_rows _) fun h3 => ?_
        refine canon_flat _ _ _ _ ρ k (head_rows _) fun h4 => ?_
        omega
    · pointwise
    · pointwise
    · pointwise

/-- Which block each window is at, at every point of the grid: point `t` has image `t`; weights and biases are whole. -/
theorem idx : ∀ t : Fin cfg1.N, win1_0.index t = ![t.val, 0, 0, 0] ∧ win1_1.index t = ![0, 0, 0] ∧ win1_2.index t = ![0, 0]
    ∧ win1_3.index t = ![0, 0] ∧ win1_4.index t = ![0, 0] ∧ win1_5.index t = ![t.val, 0, 0, 0] :=
  (by decide +kernel : ∀ t : Fin grid1.N, _)

/-- The packed weights come whole. -/
theorem block_wk (V : (c : Dev nD) → (b : Ref sig .tc) → Buf (Elt Ideal) ((c : Thread nD τ).loc b)) (c : Dev nD) (t : Fin cfg1.N) : iblk1 V c 1 t = V c main_v2 := by blk_ext! [iblk1, idx t]

/-- The hidden map's bias comes whole. -/
theorem block_bc (V : (c : Dev nD) → (b : Ref sig .tc) → Buf (Elt Ideal) ((c : Thread nD τ).loc b)) (c : Dev nD) (t : Fin cfg1.N) : iblk1 V c 2 t = V c main_v11 := by blk_ext! [iblk1, idx t]

/-- The head's weights come whole. -/
theorem block_wh (V : (c : Dev nD) → (b : Ref sig .tc) → Buf (Elt Ideal) ((c : Thread nD τ).loc b)) (c : Dev nD) (t : Fin cfg1.N) : iblk1 V c 3 t = V c main_v8 := by blk_ext! [iblk1, idx t]

/-- The head's bias comes whole. -/
theorem block_bh (V : (c : Dev nD) → (b : Ref sig .tc) → Buf (Elt Ideal) ((c : Thread nD τ).loc b)) (c : Dev nD) (t : Fin cfg1.N) : iblk1 V c 4 t = V c main_v12 := by blk_ext! [iblk1, idx t]

/-- Point `t` is given image `t` of the batch. -/
theorem block_image (V : (c : Dev nD) → (b : Ref sig .tc) → Buf (Elt Ideal) ((c : Thread nD τ).loc b)) (c : Dev nD) (t : Fin cfg1.N) (k : Fin 256) (a b : Fin 64) :
    (show FVec Ideal S1x256x64x64 .bf16 from iblk1 V c 0 t) (ix4 0 k a b) = (show FVec Ideal S2x256x64x64 .bf16 from V c main_v19) (ix4 ⟨t.val, t.isLt⟩ k a b) := by
  blk_ext [iblk1, idx t]

/-- Point `t`'s output block lies at image `t` of the result. -/
theorem placed (t : Fin cfg1.N) (i j : Fin 64) (o : Fin 16) : (win1_5.blk t).view.emb (ix4 0 i j o) = (show S2x64x64x16.Idx from ix4 ⟨t.val, t.isLt⟩ i j o) := by
  blk_ext [idx t]

/-- After the launch the result array holds the level's value for every image, pixel and channel. -/
theorem array (V : (c : Dev nD) → (b : Ref sig .tc) → Buf (Elt Ideal) ((c : Thread nD τ).loc b)) (c : Dev nD) (n : Fin 2) (i j : Fin 64) (o : Fin 16) :
    (show FVec Ideal S2x64x64x16 .f32 from (dat1 V c).arrAt 5 cfg1.N) (ix4 n i j o)
      = maps (V c main_v19) (V c main_v2) (V c main_v11) (V c main_v8) (V c main_v12) n i.val j.val o := by
  suffices h : (dat1 V c).arrAt 5 cfg1.N = fun y : S2x64x64x16.Idx =>
      maps (V c main_v19) (V c main_v2) (V c main_v11) (V c main_v8) (V c main_v12) (y 0) (y 1).val (y 2).val (y 3) from congrFun h _
  refine (dat1 V c).arrAt_eq_of_covers 5 _ (by decide +kernel) fun t hf y => ?_
  obtain ⟨a, i, j, o, rfl⟩ : ∃ (a : Fin 1) (i j : Fin 64) (o : Fin 16), y = ix4 a i j o := ⟨y 0, y 1, y 2, y 3, by funext q; fin_cases q <;> rfl⟩
  obtain rfl : a = 0 := Subsingleton.elim _ _
  blk_simp
  rw [after1_5]
  refine (out V c t i j o).trans ?_
  rw [block_wk, block_bc, block_wh, block_bh, show win1_5.index t 1 = 0 from congrFun (idx t).2.2.2.2.2 1,
    show win1_5.index t 2 = 0 from congrFun (idx t).2.2.2.2.2 2, Nat.zero_mul, Nat.zero_add, Nat.zero_add]
  refine (level_eq_maps _ (V c main_v19) _ _ _ _ ⟨t.val, t.isLt⟩ (block_image V c t) _ _ _).trans ?_
  exact congrArg₂ (fun n o => maps (V c main_v19) (V c main_v2) (V c main_v11) (V c main_v8) (V c main_v12) n i.val j.val o)
    (congrFun (placed t i j o) 0).symm (congrFun (placed t i j o) 3).symm

end Cert.KernelIdeal.Level1

end
-- ==== Proof.Level2.lean ====
/- Level 2 of the pyramid (maps of 32×32 pixels): what the launch leaves in its result array. -/
module

public import proofs.«01_k».proof.Proof.Scratch
public import proofs.«01_k».proof.Proof.Gen.KernelIdeal.Frame
public import Idealize.ShloMosaic.Lib.Pipeline.ValueKit

@[expose] public section

set_option maxRecDepth 16384

noncomputable section

namespace Cert.KernelIdeal.Level2

open Cert.KernelIdeal Cert.KernelIdeal.Gen Cert.Spec Idealize.ShloMosaic Idealize.ShloMosaic.TcCoe Idealize.SL.Sem
open Idealize.ShloMosaic.Pipeline (Dat)

/-- The zero rows stored above the image are the first rows of the flattened bordered image. -/
theorem head_rows (f : Fin 256 → Fin 32 → Fin 32 → EReal) (r : Fin 40) (k : Fin 256) : k2_pay2 (F := Ideal) (ix2 r k) = flat f (0 + r.val) k := by
  rw [flat_head f (by decide) _ _ (by omega)]
  pointwise [k2_pay2]

/-- The zero rows stored below the image are its last rows. -/
theorem tail_rows (f : Fin 256 → Fin 32 → Fin 32 → EReal) (r : Fin 40) (k : Fin 256) : k2_pay3 (F := Ideal) (ix2 r k) = flat f (1064 + r.val) k := by
  rw [flat_tail f (by decide)]
  pointwise [k2_pay3]

/-- The stored pixels, channels last, are the rows of the flattened bordered image that belong to the image. -/
theorem image_rows (f : Fin 256 → Fin 32 → Fin 32 → EReal) (base : ℕ) (hb : base + 32 ≤ 32) (x : FVec Ideal S1x256x32x32 .bf16)
    (hx : ∀ k (i j : Fin 32), x (ix4 0 k i j) = f k ⟨base + i.val, by omega⟩ j) (r : Fin 1024) (k : Fin 256) :
    k2_pay9 (F := Ideal) x (ix2 r k) = flat f (8 + (base + 1) * 32 + r.val) k := by
  rw [flat_image f (by decide) base r.val k (by omega)]
  pointwise [k2_pay9]
  exact hx _ _ _

/-- The rows one pixel to the left, with the pixels of column 0 replaced by zero, are the left neighbours in the bordered image. -/
theorem left_cols (f : Fin 256 → Fin 32 → Fin 32 → EReal) (base : ℕ) (v : FVec Ideal S1088x256 .bf16)
    (hv : ∀ r k, v (ix2 r k) = flat f (7 + base * 32 + r.val) k) (r : Fin 1088) (k : Fin 256) :
    k2_pay10 (F := Ideal) k2_pay5 v (ix2 r k) = px f k (base + r.val / 32) (r.val % 32 + 0) := by
  rw [← flat_left f (by decide), ← hv]
  pointwise [k2_pay10, k2_pay5, k2_pay4]
  exact mask_low 5 r.val 0 (by omega) (by decide) (by decide) _

/-- The rows as they lie are the pixels in the middle column of each 3×3 window. -/
theorem mid_cols (f : Fin 256 → Fin 32 → Fin 32 → EReal) (base : ℕ) (v : FVec Ideal S1088x256 .bf16)
    (hv : ∀ r k, v (ix2 r k) = flat f (8 + base * 32 + r.val) k) (r : Fin 1088) (k : Fin 256) :
    k2_pay11 (F := Ideal) v (ix2 r k) = px f k (base + r.val / 32) (r.val % 32 + 1) := by
  rw [← flat_row f (by decide), ← hv]
  pointwise [k2_pay11]

/-- The rows one pixel to the right, with the pixels of the last column replaced by zero, are the right neighbours in the bordered image. -/
theorem right_cols (f : Fin 256 → Fin 32 → Fin 32 → EReal) (base : ℕ) (v : FVec Ideal S1088x256 .bf16)
    (hv : ∀ r k, v (ix2 r k) = flat f (9 + base * 32 + r.val) k) (r : Fin 1088) (k : Fin 256) :
    k2_pay12 (F := Ideal) k2_pay6 v (ix2 r k) = px f k (base + r.val / 32) (r.val % 32 + 2) := by
  rw [← flat_right f (by decide), ← hv]
  pointwise [k2_pay12, k2_pay6, k2_pay4]
  exact mask_low 5 r.val 31 (by omega) (by decide) (by decide) _

/-- A chunk of output rows from `base` on: three products with the three bands of the packed weights, the bias, the cut at zero and the head give the level's
    value at every pixel and channel. -/
theorem chunk (base : ℕ) (x : FVec Ideal S1x256x32x32 .bf16) (wk : FVec Ideal S3x768x256 .bf16) (bc : FVec Ideal S1x256 .f32) (wh : FVec Ideal S256x16 .bf16) (bh : FVec Ideal S1x16 .f32)
    (a b c : FVec Ideal S1024x768 .bf16) (p q r : FVec Ideal S1x768x256 .bf16)
    (ha : ∀ r y, a (ix2 r y) = wide (img x) base (0 + r.val) y) (hb : ∀ r y, b (ix2 r y) = wide (img x) base (32 + r.val) y)
    (hc : ∀ r y, c (ix2 r y) = wide (img x) base (64 + r.val) y)
    (hp : ∀ y co, p (ix3 0 y co) = wk (ix3 0 y co)) (hq : ∀ y co, q (ix3 0 y co) = wk (ix3 1 y co)) (hr : ∀ y co, r (ix3 0 y co) = wk (ix3 2 y co))
    (i j : Fin 32) (o : Fin 16) :
    k2_pay1 (F := Ideal) (k2_pay7 bc) (k2_pay8 bh) (k2_pay13 a p b q) c r wh (ix4 0 i j o) = level x wk bc wh bh (base + i.val) j.val o := by
  pointwise [k2_pay1, k2_pay7, k2_pay8, k2_pay13]
  refine level_of_wide x wk bc wh bh base i.val j.val j.isLt o _ _ _ (fun y => ?_) (fun y => ?_) (fun y => ?_) _ _ _ hp hq hr
  · exact ha _ y
  · exact hb _ y
  · exact hc _ y

set_option maxHeartbeats 1000000 in
/-- The block the body leaves for one image holds the level's value at every pixel and channel. -/
theorem out (V : (c : Dev nD) → (b : Ref sig .tc) → Buf (Elt Ideal) ((c : Thread nD τ).loc b)) (c : Dev nD) (t : Fin cfg2.N) (i j : Fin 32) (o : Fin 16) :
    (show FVec Ideal S1x32x32x16 .f32 from outsAt2 V c t) (ix4 0 i j o)
      = level (iblk2 V c 0 t) (iblk2 V c 1 t) (iblk2 V c 2 t) (iblk2 V c 3 t) (iblk2 V c 4 t) i j o := by
  unfold outsAt2
  frame_open
  simp (disch := decide) only [View.read_writes_junk_eq_canon, View.canon_cons_unit_lit', View.readAt_eq_ld, Memref.IsWhole.read_unread, View.ld_unit_lit']
  generalize (iblk2 V c 0 t) = x
  generalize (iblk2 V c 1 t) = wk
  refine (chunk 0 x wk _ _ _ _ _ _ _ _ _ (fun r y => ?_) (fun r y => ?_) (fun r y => ?_) (fun y co => ?_) (fun y co => ?_) (fun y co => ?_) i j o).trans (by rw [Nat.zero_add])
  iterate 3
    refine readCov_wide (img x) 0 _ _ _ _ _ _ _ _ _ (right_cols _ 0 _ (readCov_flat _ _ _ _ fun ρ k hl hh => ?_)) (mid_cols _ 0 _ (readCov_flat _ _ _ _ fun ρ k hl hh => ?_))
      (left_cols _ 0 _ (readCov_flat _ _ _ _ fun ρ k hl hh => ?_)) r y
    iterate 3
      refine canon_flat _ _ _ _ ρ k (image_rows _ 0 (by decide) x fun k i j => by simp only [Nat.zero_add]) fun h1 => ?_
      refine canon_flat _ _ _ _ ρ k (tail_rows _) fun h2 => ?_
      refine canon_flat _ _ _ _ ρ k (head_rows _) fun h3 => ?_
      omega
  · pointwise
  · pointwise
  · pointwise

/-- Which block each window is at, at every point of the grid: point `t` has image `t`; weights and biases are whole. -/
theorem idx : ∀ t : Fin cfg2.N, win2_0.index t = ![t.val, 0, 0, 0] ∧ win2_1.index t = ![0, 0, 0] ∧ win2_2.index t = ![0, 0]
    ∧ win2_3.index t = ![0, 0] ∧ win2_4.index t = ![0, 0] ∧ win2_5.index t = ![t.val, 0, 0, 0] :=
  (by decide +kernel : ∀ t : Fin grid2.N, _)

/-- The packed weights come whole. -/
theorem block_wk (V : (c : Dev nD) → (b : Ref sig .tc) → Buf (Elt Ideal) ((c : Thread nD τ).loc b)) (c : Dev nD) (t : Fin cfg2.N) : iblk2 V c 1 t = V c main_v2 := by blk_ext! [iblk2, idx t]

/-- The hidden map's bias comes whole. -/
theorem block_bc (V : (c : Dev nD) → (b : Ref sig .tc) → Buf (Elt Ideal) ((c : Thread nD τ).loc b)) (c : Dev nD) (t : Fin cfg2.N) : iblk2 V c 2 t = V c main_v11 := by blk_ext! [iblk2, idx t]

/-- The head's weights come whole. -/
theorem block_wh (V : (c : Dev nD) → (b : Ref sig .tc) → Buf (Elt Ideal) ((c : Thread nD τ).loc b)) (c : Dev nD) (t : Fin cfg2.N) : iblk2 V c 3 t = V c main_v8 := by blk_ext! [iblk2, idx t]

/-- The head's bias comes whole. -/
theorem block_bh (V : (c : Dev nD) → (b : Ref sig .tc) → Buf (Elt Ideal) ((c : Thread nD τ).loc b)) (c : Dev nD) (t : Fin cfg2.N) : iblk2 V c 4 t = V c main_v12 := by blk_ext! [iblk2, idx t]

/-- Point `t` is given image `t` of the batch. -/
theorem block_image (V : (c : Dev nD) → (b : Ref sig .tc) → Buf (Elt Ideal) ((c : Thread nD τ).loc b)) (c : Dev nD) (t : Fin cfg2.N) (k : Fin 256) (a b : Fin 32) :
    (show FVec Ideal S1x256x32x32 .bf16 from iblk2 V c 0 t) (ix4 0 k a b) = (show FVec Ideal S2x256x32x32 .bf16 from V c main_v25) (ix4 ⟨t.val, t.isLt⟩ k a b) := by
  blk_ext [iblk2, idx t]

/-- Point `t`'s output block lies at image `t` of the result. -/
theorem placed (t : Fin cfg2.N) (i j : Fin 32) (o : Fin 16) : (win2_5.blk t).view.emb (ix4 0 i j o) = (show S2x32x32x16.Idx from ix4 ⟨t.val, t.isLt⟩ i j o) := by
  blk_ext [idx t]

/-- After the launch the result array holds the level's value for every image, pixel and channel. -/
theorem array (V : (c : Dev nD) → (b : Ref sig .tc) → Buf (Elt Ideal) ((c : Thread nD τ).loc b)) (c : Dev nD) (n : Fin 2) (i j : Fin 32) (o : Fin 16) :
    (show FVec Ideal S2x32x32x16 .f32 from (dat2 V c).arrAt 5 cfg2.N) (ix4 n i j o)
      = maps (V c main_v25) (V c main_v2) (V c main_v11) (V c main_v8) (V c main_v12) n i.val j.val o := by
  suffices h : (dat2 V c).arrAt 5 cfg2.N = fun y : S2x32x32x16.Idx =>
      maps (V c main_v25) (V c main_v2) (V c main_v11) (V c main_v8) (V c main_v12) (y 0) (y 1).val (y 2).val (y 3) from congrFun h _
  refine (dat2 V c).arrAt_eq_of_covers 5 _ (by decide +kernel) fun t hf y => ?_
  obtain ⟨a, i, j, o, rfl⟩ : ∃ (a : Fin 1) (i j : Fin 32) (o : Fin 16), y = ix4 a i j o := ⟨y 0, y 1, y 2, y 3, by funext q; fin_cases q <;> rfl⟩
  obtain rfl : a = 0 := Subsingleton.elim _ _
  blk_simp
  rw [after2_5]
  refine (out V c t i j o).trans ?_
  rw [block_wk, block_bc, block_wh, block_bh, show win2_5.index t 1 = 0 from congrFun (idx t).2.2.2.2.2 1,
    show win2_5.index t 2 = 0 from congrFun (idx t).2.2.2.2.2 2, Nat.zero_mul, Nat.zero_add, Nat.zero_add]
  refine (level_eq_maps _ (V c main_v25) _ _ _ _ ⟨t.val, t.isLt⟩ (block_image V c t) _ _ _).trans ?_
  exact congrArg₂ (fun n o => maps (V c main_v25) (V c main_v2) (V c main_v11) (V c main_v8) (V c main_v12) n i.val j.val o)
    (congrFun (placed t i j o) 0).symm (congrFun (placed t i j o) 3).symm

end Cert.KernelIdeal.Level2

end
-- ==== Proof.Level3.lean ====
/- Level 3 of the pyramid (maps of 16×16 pixels): what the launch leaves in its result array. -/
module

public import proofs.«01_k».proof.Proof.Scratch
public import proofs.«01_k».proof.Proof.Gen.KernelIdeal.Frame
public import Idealize.ShloMosaic.Lib.Pipeline.ValueKit

@[expose] public section

set_option maxRecDepth 16384

noncomputable section

namespace Cert.KernelIdeal.Level3

open Cert.KernelIdeal Cert.KernelIdeal.Gen Cert.Spec Idealize.ShloMosaic Idealize.ShloMosaic.TcCoe Idealize.SL.Sem
open Idealize.ShloMosaic.Pipeline (Dat)

/-- The zero rows stored above the image are the first rows of the flattened bordered image. -/
theorem head_rows (f : Fin 256 → Fin 16 → Fin 16 → EReal) (r : Fin 24) (k : Fin 256) : k3_pay2 (F := Ideal) (ix2 r k) = flat f (0 + r.val) k := by
  rw [flat_head f (by decide) _ _ (by omega)]
  pointwise [k3_pay2]

/-- The zero rows stored below the image are its last rows. -/
theorem tail_rows (f : Fin 256 → Fin 16 → Fin 16 → EReal) (r : Fin 24) (k : Fin 256) : k3_pay3 (F := Ideal) (ix2 r k) = flat f (280 + r.val) k := by
  rw [flat_tail f (by decide)]
  pointwise [k3_pay3]

/-- The stored pixels, channels last, are the rows of the flattened bordered image that belong to the image. -/
theorem image_rows (f : Fin 256 → Fin 16 → Fin 16 → EReal) (base : ℕ) (hb : base + 16 ≤ 16) (x : FVec Ideal S1x256x16x16 .bf16)
    (hx : ∀ k (i j : Fin 16), x (ix4 0 k i j) = f k ⟨base + i.val, by omega⟩ j) (r : Fin 256) (k : Fin 256) :
    k3_pay9 (F := Ideal) x (ix2 r k) = flat f (8 + (base + 1) * 16 + r.val) k := by
  rw [flat_image f (by decide) base r.val k (by omega)]
  pointwise [k3_pay9]
  exact hx _ _ _

/-- The rows one pixel to the left, with the pixels of column 0 replaced by zero, are the left neighbours in the bordered image. -/
theorem left_cols (f : Fin 256 → Fin 16 → Fin 16 → EReal) (base : ℕ) (v : FVec Ideal S288x256 .bf16)
    (hv : ∀ r k, v (ix2 r k) = flat f (7 + base * 16 + r.val) k) (r : Fin 288) (k : Fin 256) :
    k3_pay10 (F := Ideal) k3_pay5 v (ix2 r k) = px f k (base + r.val / 16) (r.val % 16 + 0) := by
  rw [← flat_left f (by decide), ← hv]
  pointwise [k3_pay10, k3_pay5, k3_pay4]
  exact mask_low 4 r.val 0 (by omega) (by decide) (by decide) _

/-- The rows as they lie are the pixels in the middle column of each 3×3 window. -/
theorem mid_cols (f : Fin 256 → Fin 16 → Fin 16 → EReal) (base : ℕ) (v : FVec Ideal S288x256 .bf16)
    (hv : ∀ r k, v (ix2 r k) = flat f (8 + base * 16 + r.val) k) (r : Fin 288) (k : Fin 256) :
    k3_pay11 (F := Ideal) v (ix2 r k) = px f k (base + r.val / 16) (r.val % 16 + 1) := by
  rw [← flat_row f (by decide), ← hv]
  pointwise [k3_pay11]

/-- The rows one pixel to the right, with the pixels of the last column replaced by zero, are the right neighbours in the bordered image. -/
theorem right_cols (f : Fin 256 → Fin 16 → Fin 16 → EReal) (base : ℕ) (v : FVec Ideal S288x256 .bf16)
    (hv : ∀ r k, v (ix2 r k) = flat f (9 + base * 16 + r.val) k) (r : Fin 288) (k : Fin 256) :
    k3_pay12 (F := Ideal) k3_pay6 v (ix2 r k) = px f k (base + r.val / 16) (r.val % 16 + 2) := by
  rw [← flat_right f (by decide), ← hv]
  pointwise [k3_pay12, k3_pay6, k3_pay4]
  exact mask_low 4 r.val 15 (by omega) (by decide) (by decide) _

/-- A chunk of output rows from `base` on: three products with the three bands of the packed weights, the bias, the cut at zero and the head give the level's
    value at every pixel and channel. -/
theorem chunk (base : ℕ) (x : FVec Ideal S1x256x16x16 .bf16) (wk : FVec Ideal S3x768x256 .bf16) (bc : FVec Ideal S1x256 .f32) (wh : FVec Ideal S256x16 .bf16) (bh : FVec Ideal S1x16 .f32)
    (a b c : FVec Ideal S256x768 .bf16) (p q r : FVec Ideal S1x768x256 .bf16)
    (ha : ∀ r y, a (ix2 r y) = wide (img x) base (0 + r.val) y) (hb : ∀ r y, b (ix2 r y) = wide (img x) base (16 + r.val) y)
    (hc : ∀ r y, c (ix2 r y) = wide (img x) base (32 + r.val) y)
    (hp : ∀ y co, p (ix3 0 y co) = wk (ix3 0 y co)) (hq : ∀ y co, q (ix3 0 y co) = wk (ix3 1 y co)) (hr : ∀ y co, r (ix3 0 y co) = wk (ix3 2 y co))
    (i j : Fin 16) (o : Fin 16) :
    k3_pay1 (F := Ideal) (k3_pay7 bc) (k3_pay8 bh) (k3_pay13 a p b q) c r wh (ix4 0 i j o) = level x wk bc wh bh (base + i.val) j.val o := by
  pointwise [k3_pay1, k3_pay7, k3_pay8, k3_pay13]
  refine level_of_wide x wk bc wh bh base i.val j.val j.isLt o _ _ _ (fun y => ?_) (fun y => ?_) (fun y => ?_) _ _ _ hp hq hr
  · exact ha _ y
  · exact hb _ y
  · exact hc _ y

set_option maxHeartbeats 1000000 in
/-- The block the body leaves for one image holds the level's value at every pixel and channel. -/
theorem out (V : (c : Dev nD) → (b : Ref sig .tc) → Buf (Elt Ideal) ((c : Thread nD τ).loc b)) (c : Dev nD) (t : Fin cfg3.N) (i j : Fin 16) (o : Fin 16) :
    (show FVec Ideal S1x16x16x16 .f32 from outsAt3 V c t) (ix4 0 i j o)
      = level (iblk3 V c 0 t) (iblk3 V c 1 t) (iblk3 V c 2 t) (iblk3 V c 3 t) (iblk3 V c 4 t) i j o := by
  unfold outsAt3
  frame_open
  simp (disch := decide) only [View.read_writes_junk_eq_canon, View.canon_cons_unit_lit', View.readAt_eq_ld, Memref.IsWhole.read_unread, View.ld_unit_lit']
  generalize (iblk3 V c 0 t) = x
  generalize (iblk3 V c 1 t) = wk
  refine (chunk 0 x wk _ _ _ _ _ _ _ _ _ (fun r y => ?_) (fun r y => ?_) (fun r y => ?_) (fun y co => ?_) (fun y co => ?_) (fun y co => ?_) i j o).trans (by rw [Nat.zero_add])
  iterate 3
    refine readCov_wide (img x) 0 _ _ _ _ _ _ _ _ _ (right_cols _ 0 _ (readCov_flat _ _ _ _ fun ρ k hl hh => ?_)) (mid_cols _ 0 _ (readCov_flat _ _ _ _ fun ρ k hl hh => ?_))
      (left_cols _ 0 _ (readCov_flat _ _ _ _ fun ρ k hl hh => ?_)) r y
    iterate 3
      refine canon_flat _ _ _ _ ρ k (image_rows _ 0 (by decide) x fun k i j => by simp only [Nat.zero_add]) fun h1 => ?_
      refine canon_flat _ _ _ _ ρ k (tail_rows _) fun h2 => ?_
      refine canon_flat _ _ _ _ ρ k (head_rows _) fun h3 => ?_
      omega
  · pointwise
  · pointwise
  · pointwise

/-- Which block each window is at, at every point of the grid: point `t` has image `t`; weights and biases are whole. -/
theorem idx : ∀ t : Fin cfg3.N, win3_0.index t = ![t.val, 0, 0, 0] ∧ win3_1.index t = ![0, 0, 0] ∧ win3_2.index t = ![0, 0]
    ∧ win3_3.index t = ![0, 0] ∧ win3_4.index t = ![0, 0] ∧ win3_5.index t = ![t.val, 0, 0, 0] :=
  (by decide +kernel : ∀ t : Fin grid3.N, _)

/-- The packed weights come whole. -/
theorem block_wk (V : (c : Dev nD) → (b : Ref sig .tc) → Buf (Elt Ideal) ((c : Thread nD τ).loc b)) (c : Dev nD) (t : Fin cfg3.N) : iblk3 V c 1 t = V c main_v2 := by blk_ext! [iblk3, idx t]

/-- The hidden map's bias comes whole. -/
theorem block_bc (V : (c : Dev nD) → (b : Ref sig .tc) → Buf (Elt Ideal) ((c : Thread nD τ).loc b)) (c : Dev nD) (t : Fin cfg3.N) : iblk3 V c 2 t = V c main_v11 := by blk_ext! [iblk3, idx t]

/-- The head's weights come whole. -/
theorem block_wh (V : (c : Dev nD) → (b : Ref sig .tc) → Buf (Elt Ideal) ((c : Thread nD τ).loc b)) (c : Dev nD) (t : Fin cfg3.N) : iblk3 V c 3 t = V c main_v8 := by blk_ext! [iblk3, idx t]

/-- The head's bias comes whole. -/
theorem block_bh (V : (c : Dev nD) → (b : Ref sig .tc) → Buf (Elt Ideal) ((c : Thread nD τ).loc b)) (c : Dev nD) (t : Fin cfg3.N) : iblk3 V c 4 t = V c main_v12 := by blk_ext! [iblk3, idx t]

/-- Point `t` is given image `t` of the batch. -/
theorem block_image (V : (c : Dev nD) → (b : Ref sig .tc) → Buf (Elt Ideal) ((c : Thread nD τ).loc b)) (c : Dev nD) (t : Fin cfg3.N) (k : Fin 256) (a b : Fin 16) :
    (show FVec Ideal S1x256x16x16 .bf16 from iblk3 V c 0 t) (ix4 0 k a b) = (show FVec Ideal S2x256x16x16 .bf16 from V c main_v31) (ix4 ⟨t.val, t.isLt⟩ k a b) := by
  blk_ext [iblk3, idx t]

/-- Point `t`'s output block lies at image `t` of the result. -/
theorem placed (t : Fin cfg3.N) (i j : Fin 16) (o : Fin 16) : (win3_5.blk t).view.emb (ix4 0 i j o) = (show S2x16x16x16.Idx from ix4 ⟨t.val, t.isLt⟩ i j o) := by
  blk_ext [idx t]

/-- After the launch the result array holds the level's value for every image, pixel and channel. -/
theorem array (V : (c : Dev nD) → (b : Ref sig .tc) → Buf (Elt Ideal) ((c : Thread nD τ).loc b)) (c : Dev nD) (n : Fin 2) (i j : Fin 16) (o : Fin 16) :
    (show FVec Ideal S2x16x16x16 .f32 from (dat3 V c).arrAt 5 cfg3.N) (ix4 n i j o)
      = maps (V c main_v31) (V c main_v2) (V c main_v11) (V c main_v8) (V c main_v12) n i.val j.val o := by
  suffices h : (dat3 V c).arrAt 5 cfg3.N = fun y : S2x16x16x16.Idx =>
      maps (V c main_v31) (V c main_v2) (V c main_v11) (V c main_v8) (V c main_v12) (y 0) (y 1).val (y 2).val (y 3) from congrFun h _
  refine (dat3 V c).arrAt_eq_of_covers 5 _ (by decide +kernel) fun t hf y => ?_
  obtain ⟨a, i, j, o, rfl⟩ : ∃ (a : Fin 1) (i j : Fin 16) (o : Fin 16), y = ix4 a i j o := ⟨y 0, y 1, y 2, y 3, by funext q; fin_cases q <;> rfl⟩
  obtain rfl : a = 0 := Subsingleton.elim _ _
  blk_simp
  rw [after3_5]
  refine (out V c t i j o).trans ?_
  rw [block_wk, block_bc, block_wh, block_bh, show win3_5.index t 1 = 0 from congrFun (idx t).2.2.2.2.2 1,
    show win3_5.index t 2 = 0 from congrFun (idx t).2.2.2.2.2 2, Nat.zero_mul, Nat.zero_add, Nat.zero_add]
  refine (level_eq_maps _ (V c main_v31) _ _ _ _ ⟨t.val, t.isLt⟩ (block_image V c t) _ _ _).trans ?_
  exact congrArg₂ (fun n o => maps (V c main_v31) (V c main_v2) (V c main_v11) (V c main_v8) (V c main_v12) n i.val j.val o)
    (congrFun (placed t i j o) 0).symm (congrFun (placed t i j o) 3).symm

end Cert.KernelIdeal.Level3

end
-- ==== Proof.Level4.lean ====
/- Level 4 of the pyramid (maps of 8×8 pixels): what the launch leaves in its result array. -/
module

public import proofs.«01_k».proof.Proof.Scratch
public import proofs.«01_k».proof.Proof.Gen.KernelIdeal.Frame
public import Idealize.ShloMosaic.Lib.Pipeline.ValueKit

@[expose] public section

set_option maxRecDepth 16384

noncomputable section

namespace Cert.KernelIdeal.Level4

open Cert.KernelIdeal Cert.KernelIdeal.Gen Cert.Spec Idealize.ShloMosaic Idealize.ShloMosaic.TcCoe Idealize.SL.Sem
open Idealize.ShloMosaic.Pipeline (Dat)

/-- The zero rows stored above the image are the first rows of the flattened bordered image. -/
theorem head_rows (f : Fin 256 → Fin 8 → Fin 8 → EReal) (r : Fin 16) (k : Fin 256) : k4_pay2 (F := Ideal) (ix2 r k) = flat f (0 + r.val) k := by
  rw [flat_head f (by decide) _ _ (by omega)]
  pointwise [k4_pay2]

/-- The zero rows stored below the image are its last rows. -/
theorem tail_rows (f : Fin 256 → Fin 8 → Fin 8 → EReal) (r : Fin 16) (k : Fin 256) : k4_pay3 (F := Ideal) (ix2 r k) = flat f (80 + r.val) k := by
  rw [flat_tail f (by decide)]
  pointwise [k4_pay3]

/-- The stored pixels, channels last, are the rows of the flattened bordered image that belong to the image. -/
theorem image_rows (f : Fin 256 → Fin 8 → Fin 8 → EReal) (base : ℕ) (hb : base + 8 ≤ 8) (x : FVec Ideal S1x256x8x8 .bf16)
    (hx : ∀ k (i j : Fin 8), x (ix4 0 k i j) = f k ⟨base + i.val, by omega⟩ j) (r : Fin 64) (k : Fin 256) :
    k4_pay9 (F := Ideal) x (ix2 r k) = flat f (8 + (base + 1) * 8 + r.val) k := by
  rw [flat_image f (by decide) base r.val k (by omega)]
  pointwise [k4_pay9]
  exact hx _ _ _

/-- The rows one pixel to the left, with the pixels of column 0 replaced by zero, are the left neighbours in the bordered image. -/
theorem left_cols (f : Fin 256 → Fin 8 → Fin 8 → EReal) (base : ℕ) (v : FVec Ideal S80x256 .bf16)
    (hv : ∀ r k, v (ix2 r k) = flat f (7 + base * 8 + r.val) k) (r : Fin 80) (k : Fin 256) :
    k4_pay10 (F := Ideal) k4_pay5 v (ix2 r k) = px f k (base + r.val / 8) (r.val % 8 + 0) := by
  rw [← flat_left f (by decide), ← hv]
  pointwise [k4_pay10, k4_pay5, k4_pay4]
  exact mask_low 3 r.val 0 (by omega) (by decide) (by decide) _

/-- The rows as they lie are the pixels in the middle column of each 3×3 window. -/
theorem mid_cols (f : Fin 256 → Fin 8 → Fin 8 → EReal) (base : ℕ) (v : FVec Ideal S80x256 .bf16)
    (hv : ∀ r k, v (ix2 r k) = flat f (8 + base * 8 + r.val) k) (r : Fin 80) (k : Fin 256) :
    k4_pay11 (F := Ideal) v (ix2 r k) = px f k (base + r.val / 8) (r.val % 8 + 1) := by
  rw [← flat_row f (by decide), ← hv]
  pointwise [k4_pay11]

/-- The rows one pixel to the right, with the pixels of the last column replaced by zero, are the right neighbours in the bordered image. -/
theorem right_cols (f : Fin 256 → Fin 8 → Fin 8 → EReal) (base : ℕ) (v : FVec Ideal S80x256 .bf16)
    (hv : ∀ r k, v (ix2 r k) = flat f (9 + base * 8 + r.val) k) (r : Fin 80) (k : Fin 256) :
    k4_pay12 (F := Ideal) k4_pay6 v (ix2 r k) = px f k (base + r.val / 8) (r.val % 8 + 2) := by
  rw [← flat_right f (by decide), ← hv]
  pointwise [k4_pay12, k4_pay6, k4_pay4]
  exact mask_low 3 r.val 7 (by omega) (by decide) (by decide) _

/-- A chunk of output rows from `base` on: three products with the three bands of the packed weights, the bias, the cut at zero and the head give the level's
    value at every pixel and channel. -/
theorem chunk (base : ℕ) (x : FVec Ideal S1x256x8x8 .bf16) (wk : FVec Ideal S3x768x256 .bf16) (bc : FVec Ideal S1x256 .f32) (wh : FVec Ideal S256x16 .bf16) (bh : FVec Ideal S1x16 .f32)
    (a b c : FVec Ideal S64x768 .bf16) (p q r : FVec Ideal S1x768x256 .bf16)
    (ha : ∀ r y, a (ix2 r y) = wide (img x) base (0 + r.val) y) (hb : ∀ r y, b (ix2 r y) = wide (img x) base (8 + r.val) y)
    (hc : ∀ r y, c (ix2 r y) = wide (img x) base (16 + r.val) y)
    (hp : ∀ y co, p (ix3 0 y co) = wk (ix3 0 y co)) (hq : ∀ y co, q (ix3 0 y co) = wk (ix3 1 y co)) (hr : ∀ y co, r (ix3 0 y co) = wk (ix3 2 y co))
    (i j : Fin 8) (o : Fin 16) :
    k4_pay1 (F := Ideal) (k4_pay7 bc) (k4_pay8 bh) (k4_pay13 a p b q) c r wh (ix4 0 i j o) = level x wk bc wh bh (base + i.val) j.val o := by
  pointwise [k4_pay1, k4_pay7, k4_pay8, k4_pay13]
  refine level_of_wide x wk bc wh bh base i.val j.val j.isLt o _ _ _ (fun y => ?_) (fun y => ?_) (fun y => ?_) _ _ _ hp hq hr
  · exact ha _ y
  · exact hb _ y
  · exact hc _ y

set_option maxHeartbeats 1000000 in
/-- The block the body leaves for one image holds the level's value at every pixel and channel. -/
theorem out (V : (c : Dev nD) → (b : Ref sig .tc) → Buf (Elt Ideal) ((c : Thread nD τ).loc b)) (c : Dev nD) (t : Fin cfg4.N) (i j : Fin 8) (o : Fin 16) :
    (show FVec Ideal S1x8x8x16 .f32 from outsAt4 V c t) (ix4 0 i j o)
      = level (iblk4 V c 0 t) (iblk4 V c 1 t) (iblk4 V c 2 t) (iblk4 V c 3 t) (iblk4 V c 4 t) i j o := by
  unfold outsAt4
  frame_open
  simp (disch := decide) only [View.read_writes_junk_eq_canon, View.canon_cons_unit_lit', View.readAt_eq_ld, Memref.IsWhole.read_unread, View.ld_unit_lit']
  generalize (iblk4 V c 0 t) = x
  generalize (iblk4 V c 1 t) = wk
  refine (chunk 0 x wk _ _ _ _ _ _ _ _ _ (fun r y => ?_) (fun r y => ?_) (fun r y => ?_) (fun y co => ?_) (fun y co => ?_) (fun y co => ?_) i j o).trans (by rw [Nat.zero_add])
  iterate 3
    refine readCov_wide (img x) 0 _ _ _ _ _ _ _ _ _ (right_cols _ 0 _ (readCov_flat _ _ _ _ fun ρ k hl hh => ?_)) (mid_cols _ 0 _ (readCov_flat _ _ _ _ fun ρ k hl hh => ?_))
      (left_cols _ 0 _ (readCov_flat _ _ _ _ fun ρ k hl hh => ?_)) r y
    iterate 3
      refine canon_flat _ _ _ _ ρ k (image_rows _ 0 (by decide) x fun k i j => by simp only [Nat.zero_add]) fun h1 => ?_
      refine canon_flat _ _ _ _ ρ k (tail_rows _) fun h2 => ?_
      refine canon_flat _ _ _ _ ρ k (head_rows _) fun h3 => ?_
      omega
  · pointwise
  · pointwise
  · pointwise

/-- Which block each window is at, at every point of the grid: point `t` has image `t`; weights and biases are whole. -/
theorem idx : ∀ t : Fin cfg4.N, win4_0.index t = ![t.val, 0, 0, 0] ∧ win4_1.index t = ![0, 0, 0] ∧ win4_2.index t = ![0, 0]
    ∧ win4_3.index t = ![0, 0] ∧ win4_4.index t = ![0, 0] ∧ win4_5.index t = ![t.val, 0, 0, 0] :=
  (by decide +kernel : ∀ t : Fin grid4.N, _)

/-- The packed weights come whole. -/
theorem block_wk (V : (c : Dev nD) → (b : Ref sig .tc) → Buf (Elt Ideal) ((c : Thread nD τ).loc b)) (c : Dev nD) (t : Fin cfg4.N) : iblk4 V c 1 t = V c main_v2 := by blk_ext! [iblk4, idx t]

/-- The hidden map's bias comes whole. -/
theorem block_bc (V : (c : Dev nD) → (b : Ref sig .tc) → Buf (Elt Ideal) ((c : Thread nD τ).loc b)) (c : Dev nD) (t : Fin cfg4.N) : iblk4 V c 2 t = V c main_v11 := by blk_ext! [iblk4, idx t]

/-- The head's weights come whole. -/
theorem block_wh (V : (c : Dev nD) → (b : Ref sig .tc) → Buf (Elt Ideal) ((c : Thread nD τ).loc b)) (c : Dev nD) (t : Fin cfg4.N) : iblk4 V c 3 t = V c main_v8 := by blk_ext! [iblk4, idx t]

/-- The head's bias comes whole. -/
theorem block_bh (V : (c : Dev nD) → (b : Ref sig .tc) → Buf (Elt Ideal) ((c : Thread nD τ).loc b)) (c : Dev nD) (t : Fin cfg4.N) : iblk4 V c 4 t = V c main_v12 := by blk_ext! [iblk4, idx t]

/-- Point `t` is given image `t` of the batch. -/
theorem block_image (V : (c : Dev nD) → (b : Ref sig .tc) → Buf (Elt Ideal) ((c : Thread nD τ).loc b)) (c : Dev nD) (t : Fin cfg4.N) (k : Fin 256) (a b : Fin 8) :
    (show FVec Ideal S1x256x8x8 .bf16 from iblk4 V c 0 t) (ix4 0 k a b) = (show FVec Ideal S2x256x8x8 .bf16 from V c main_v37) (ix4 ⟨t.val, t.isLt⟩ k a b) := by
  blk_ext [iblk4, idx t]

/-- Point `t`'s output block lies at image `t` of the result. -/
theorem placed (t : Fin cfg4.N) (i j : Fin 8) (o : Fin 16) : (win4_5.blk t).view.emb (ix4 0 i j o) = (show S2x8x8x16.Idx from ix4 ⟨t.val, t.isLt⟩ i j o) := by
  blk_ext [idx t]

/-- After the launch the result array holds the level's value for every image, pixel and channel. -/
theorem array (V : (c : Dev nD) → (b : Ref sig .tc) → Buf (Elt Ideal) ((c : Thread nD τ).loc b)) (c : Dev nD) (n : Fin 2) (i j : Fin 8) (o : Fin 16) :
    (show FVec Ideal S2x8x8x16 .f32 from (dat4 V c).arrAt 5 cfg4.N) (ix4 n i j o)
      = maps (V c main_v37) (V c main_v2) (V c main_v11) (V c main_v8) (V c main_v12) n i.val j.val o := by
  suffices h : (dat4 V c).arrAt 5 cfg4.N = fun y : S2x8x8x16.Idx =>
      maps (V c main_v37) (V c main_v2) (V c main_v11) (V c main_v8) (V c main_v12) (y 0) (y 1).val (y 2).val (y 3) from congrFun h _
  refine (dat4 V c).arrAt_eq_of_covers 5 _ (by decide +kernel) fun t hf y => ?_
  obtain ⟨a, i, j, o, rfl⟩ : ∃ (a : Fin 1) (i j : Fin 8) (o : Fin 16), y = ix4 a i j o := ⟨y 0, y 1, y 2, y 3, by funext q; fin_cases q <;> rfl⟩
  obtain rfl : a = 0 := Subsingleton.elim _ _
  blk_simp
  rw [after4_5]
  refine (out V c t i j o).trans ?_
  rw [block_wk, block_bc, block_wh, block_bh, show win4_5.index t 1 = 0 from congrFun (idx t).2.2.2.2.2 1,
    show win4_5.index t 2 = 0 from congrFun (idx t).2.2.2.2.2 2, Nat.zero_mul, Nat.zero_add, Nat.zero_add]
  refine (level_eq_maps _ (V c main_v37) _ _ _ _ ⟨t.val, t.isLt⟩ (block_image V c t) _ _ _).trans ?_
  exact congrArg₂ (fun n o => maps (V c main_v37) (V c main_v2) (V c main_v11) (V c main_v8) (V c main_v12) n i.val j.val o)
    (congrFun (placed t i j o) 0).symm (congrFun (placed t i j o) 3).symm

end Cert.KernelIdeal.Level4

end
-- ==== Proof.Results.lean ====
/- The kernel program's ten results are the reference's values of the same arguments. -/
module

public import proofs.«01_k».proof.Proof.Host
public import proofs.«01_k».proof.Proof.Reference
public import proofs.«01_k».proof.Proof.Level0
public import proofs.«01_k».proof.Proof.Level1
public import proofs.«01_k».proof.Proof.Level2
public import proofs.«01_k».proof.Proof.Level3
public import proofs.«01_k».proof.Proof.Level4

@[expose] public section

set_option maxRecDepth 16384

noncomputable section

namespace Cert.KernelIdeal.Results

open Cert.KernelIdeal Cert.KernelIdeal.Gen Cert.KernelIdeal.Host Cert.ReferenceIdeal.Read Cert.ReferenceIdeal.Levels Cert.Spec
open Idealize.ShloMosaic Idealize.ShloMosaic.TcCoe Idealize.SL.Sem

variable (m : (ℓ : Loc nD τ sig) → Buf (Elt Ideal) ℓ) (ρ : Dev nD → PrngReg) (c : Dev nD)

/-- The first launch's result array, at an index. -/
theorem array0 (n : Fin 2) (i j : Fin 128) (o : Fin 16) : (show FVec Ideal S2x128x128x16 .f32 from W6 m ρ c (Proc.devRef .tc main_v14)) (ix4 n i j o)
    = maps (truncf .bf16 (m ((c : Thread nD τ).loc main_arg0)) bitsLt_bf16_f32) (packW (m ((c : Thread nD τ).loc main_arg5)))
        (shapeCast S1x256 (m ((c : Thread nD τ).loc main_arg6)) shapeCasts_S256_S1x256) (packU (m ((c : Thread nD τ).loc main_arg7)) (m ((c : Thread nD τ).loc main_arg9)))
        (packB (m ((c : Thread nD τ).loc main_arg8)) (m ((c : Thread nD τ).loc main_arg10))) n i.val j.val o :=
  ((congrFun (W6_arr m ρ c 5) (ix4 n i j o)).trans (Level0.array (V5 m ρ) c n i j o)).trans
    (maps_congr (W5_v13 m ρ c) (W5_v2 m ρ c) (W5_v11 m ρ c) (W5_v8 m ρ c)
      (W5_v12 m ρ c) n i.val j.val o)

/-- Level 0's scores. -/
theorem score_0 : W15 m ρ c (Proc.devRef .tc main_v16) = val_main_v64 (F := Ideal) (m ((c : Thread nD τ).loc main_arg0)) (m ((c : Thread nD τ).loc main_arg5))
    (m ((c : Thread nD τ).loc main_arg6)) (m ((c : Thread nD τ).loc main_arg7)) (m ((c : Thread nD τ).loc main_arg8)) := by
  rw [W15_of m ρ c main_v16 (by decide +kernel), W14_of m ρ c main_v16 (by decide +kernel), W13_of m ρ c main_v16 (by decide +kernel),
    W12_of m ρ c main_v16 (by decide +kernel), W11_of m ρ c main_v16 (by decide +kernel), W10_of m ρ c main_v16 (by decide +kernel),
    W9_of m ρ c main_v16 (by decide +kernel), W8_of m ρ c main_v16 (by decide +kernel)]
  unfold_abbrev_sides
  after_results
  funext y
  obtain ⟨n, a, i, j, rfl⟩ : ∃ (n : Fin 2) (a : Fin 3) (i j : Fin 128), y = ix4 n a i j := ⟨y 0, y 1, y 2, y 3, by funext q; fin_cases q <;> rfl⟩
  refine Eq.trans ?_ (score0 _ _ _ _ _ n a i j).symm
  refine Eq.trans ?_ (maps_score _ _ _ _ _ (m ((c : Thread nD τ).loc main_arg9)) (m ((c : Thread nD τ).loc main_arg10)) n _ _ a)
  refine Eq.trans ?_ (array0 m ρ c n i j _)
  pointwise

/-- Level 0's boxes. -/
theorem box_0 : W15 m ρ c (Proc.devRef .tc main_v18) = val_main_v70 (F := Ideal) (m ((c : Thread nD τ).loc main_arg0)) (m ((c : Thread nD τ).loc main_arg5))
    (m ((c : Thread nD τ).loc main_arg6)) (m ((c : Thread nD τ).loc main_arg9)) (m ((c : Thread nD τ).loc main_arg10)) := by
  rw [W15_of m ρ c main_v18 (by decide +kernel), W14_of m ρ c main_v18 (by decide +kernel), W13_of m ρ c main_v18 (by decide +kernel),
    W12_of m ρ c main_v18 (by decide +kernel), W11_of m ρ c main_v18 (by decide +kernel), W10_of m ρ c main_v18 (by decide +kernel),
    W9_of m ρ c main_v18 (by decide +kernel), W8_of m ρ c main_v18 (by decide +kernel)]
  unfold_abbrev_sides
  after_results
  funext y
  obtain ⟨n, a, i, j, rfl⟩ : ∃ (n : Fin 2) (a : Fin 12) (i j : Fin 128), y = ix4 n a i j := ⟨y 0, y 1, y 2, y 3, by funext q; fin_cases q <;> rfl⟩
  refine Eq.trans ?_ (box0 _ _ _ _ _ n a i j).symm
  refine Eq.trans ?_ (maps_box _ _ _ (m ((c : Thread nD τ).loc main_arg7)) (m ((c : Thread nD τ).loc main_arg8)) _ _ n _ _ a)
  refine Eq.trans ?_ (array0 m ρ c n i j _)
  pointwise

/-- The second launch's result array, at an index. -/
theorem array1 (n : Fin 2) (i j : Fin 64) (o : Fin 16) : (show FVec Ideal S2x64x64x16 .f32 from W8 m ρ c (Proc.devRef .tc main_v20)) (ix4 n i j o)
    = maps (truncf .bf16 (m ((c : Thread nD τ).loc main_arg1)) bitsLt_bf16_f32) (packW (m ((c : Thread nD τ).loc main_arg5)))
        (shapeCast S1x256 (m ((c : Thread nD τ).loc main_arg6)) shapeCasts_S256_S1x256) (packU (m ((c : Thread nD τ).loc main_arg7)) (m ((c : Thread nD τ).loc main_arg9)))
        (packB (m ((c : Thread nD τ).loc main_arg8)) (m ((c : Thread nD τ).loc main_arg10))) n i.val j.val o :=
  ((congrFun (W8_arr m ρ c 5) (ix4 n i j o)).trans (Level1.array (V7 m ρ) c n i j o)).trans
    (maps_congr (W7_v19 m ρ c) ((packed_1 m ρ c main_v2 (by decide)).trans (W5_v2 m ρ c)) ((packed_1 m ρ c main_v11 (by decide)).trans (W5_v11 m ρ c)) ((packed_1 m ρ c main_v8 (by decide)).trans (W5_v8 m ρ c))
      ((packed_1 m ρ c main_v12 (by decide)).trans (W5_v12 m ρ c)) n i.val j.val o)

/-- Level 1's scores. -/
theorem score_1 : W15 m ρ c (Proc.devRef .tc main_v22) = val_main_v135 (F := Ideal) (m ((c : Thread nD τ).loc main_arg1)) (m ((c : Thread nD τ).loc main_arg5))
    (m ((c : Thread nD τ).loc main_arg6)) (m ((c : Thread nD τ).loc main_arg7)) (m ((c : Thread nD τ).loc main_arg8)) := by
  rw [W15_of m ρ c main_v22 (by decide +kernel), W14_of m ρ c main_v22 (by decide +kernel), W13_of m ρ c main_v22 (by decide +kernel),
    W12_of m ρ c main_v22 (by decide +kernel), W11_of m ρ c main_v22 (by decide +kernel), W10_of m ρ c main_v22 (by decide +kernel)]
  unfold_abbrev_sides
  after_results
  funext y
  obtain ⟨n, a, i, j, rfl⟩ : ∃ (n : Fin 2) (a : Fin 3) (i j : Fin 64), y = ix4 n a i j := ⟨y 0, y 1, y 2, y 3, by funext q; fin_cases q <;> rfl⟩
  refine Eq.trans ?_ (score1 _ _ _ _ _ n a i j).symm
  refine Eq.trans ?_ (maps_score _ _ _ _ _ (m ((c : Thread nD τ).loc main_arg9)) (m ((c : Thread nD τ).loc main_arg10)) n _ _ a)
  refine Eq.trans ?_ (array1 m ρ c n i j _)
  pointwise

/-- Level 1's boxes. -/
theorem box_1 : W15 m ρ c (Proc.devRef .tc main_v24) = val_main_v141 (F := Ideal) (m ((c : Thread nD τ).loc main_arg1)) (m ((c : Thread nD τ).loc main_arg5))
    (m ((c : Thread nD τ).loc main_arg6)) (m ((c : Thread nD τ).loc main_arg9)) (m ((c : Thread nD τ).loc main_arg10)) := by
  rw [W15_of m ρ c main_v24 (by decide +kernel), W14_of m ρ c main_v24 (by decide +kernel), W13_of m ρ c main_v24 (by decide +kernel),
    W12_of m ρ c main_v24 (by decide +kernel), W11_of m ρ c main_v24 (by decide +kernel), W10_of m ρ c main_v24 (by decide +kernel)]
  unfold_abbrev_sides
  after_results
  funext y
  obtain ⟨n, a, i, j, rfl⟩ : ∃ (n : Fin 2) (a : Fin 12) (i j : Fin 64), y = ix4 n a i j := ⟨y 0, y 1, y 2, y 3, by funext q; fin_cases q <;> rfl⟩
  refine Eq.trans ?_ (box1 _ _ _ _ _ n a i j).symm
  refine Eq.trans ?_ (maps_box _ _ _ (m ((c : Thread nD τ).loc main_arg7)) (m ((c : Thread nD τ).loc main_arg8)) _ _ n _ _ a)
  refine Eq.trans ?_ (array1 m ρ c n i j _)
  pointwise

/-- The third launch's result array, at an index. -/
theorem array2 (n : Fin 2) (i j : Fin 32) (o : Fin 16) : (show FVec Ideal S2x32x32x16 .f32 from W10 m ρ c (Proc.devRef .tc main_v26)) (ix4 n i j o)
    = maps (truncf .bf16 (m ((c : Thread nD τ).loc main_arg2)) bitsLt_bf16_f32) (packW (m ((c : Thread nD τ).loc main_arg5)))
        (shapeCast S1x256 (m ((c : Thread nD τ).loc main_arg6)) shapeCasts_S256_S1x256) (packU (m ((c : Thread nD τ).loc main_arg7)) (m ((c : Thread nD τ).loc main_arg9)))
        (packB (m ((c : Thread nD τ).loc main_arg8)) (m ((c : Thread nD τ).loc main_arg10))) n i.val j.val o :=
  ((congrFun (W10_arr m ρ c 5) (ix4 n i j o)).trans (Level2.array (V9 m ρ) c n i j o)).trans
    (maps_congr (W9_v25 m ρ c) ((packed_2 m ρ c main_v2 (by decide)).trans (W5_v2 m ρ c)) ((packed_2 m ρ c main_v11 (by decide)).trans (W5_v11 m ρ c)) ((packed_2 m ρ c main_v8 (by decide)).trans (W5_v8 m ρ c))
      ((packed_2 m ρ c main_v12 (by decide)).trans (W5_v12 m ρ c)) n i.val j.val o)

/-- Level 2's scores. -/
theorem score_2 : W15 m ρ c (Proc.devRef .tc main_v28) = val_main_v206 (F := Ideal) (m ((c : Thread nD τ).loc main_arg2)) (m ((c : Thread nD τ).loc main_arg5))
    (m ((c : Thread nD τ).loc main_arg6)) (m ((c : Thread nD τ).loc main_arg7)) (m ((c : Thread nD τ).loc main_arg8)) := by
  rw [W15_of m ρ c main_v28 (by decide +kernel), W14_of m ρ c main_v28 (by decide +kernel), W13_of m ρ c main_v28 (by decide +kernel),
    W12_of m ρ c main_v28 (by decide +kernel)]
  unfold_abbrev_sides
  after_results
  funext y
  obtain ⟨n, a, i, j, rfl⟩ : ∃ (n : Fin 2) (a : Fin 3) (i j : Fin 32), y = ix4 n a i j := ⟨y 0, y 1, y 2, y 3, by funext q; fin_cases q <;> rfl⟩
  refine Eq.trans ?_ (score2 _ _ _ _ _ n a i j).symm
  refine Eq.trans ?_ (maps_score _ _ _ _ _ (m ((c : Thread nD τ).loc main_arg9)) (m ((c : Thread nD τ).loc main_arg10)) n _ _ a)
  refine Eq.trans ?_ (array2 m ρ c n i j _)
  pointwise

/-- Level 2's boxes. -/
theorem box_2 : W15 m ρ c (Proc.devRef .tc main_v30) = val_main_v212 (F := Ideal) (m ((c : Thread nD τ).loc main_arg2)) (m ((c : Thread nD τ).loc main_arg5))
    (m ((c : Thread nD τ).loc main_arg6)) (m ((c : Thread nD τ).loc main_arg9)) (m ((c : Thread nD τ).loc main_arg10)) := by
  rw [W15_of m ρ c main_v30 (by decide +kernel), W14_of m ρ c main_v30 (by decide +kernel), W13_of m ρ c main_v30 (by decide +kernel),
    W12_of m ρ c main_v30 (by decide +kernel)]
  unfold_abbrev_sides
  after_results
  funext y
  obtain ⟨n, a, i, j, rfl⟩ : ∃ (n : Fin 2) (a : Fin 12) (i j : Fin 32), y = ix4 n a i j := ⟨y 0, y 1, y 2, y 3, by funext q; fin_cases q <;> rfl⟩
  refine Eq.trans ?_ (box2 _ _ _ _ _ n a i j).symm
  refine Eq.trans ?_ (maps_box _ _ _ (m ((c : Thread nD τ).loc main_arg7)) (m ((c : Thread nD τ).loc main_arg8)) _ _ n _ _ a)
  refine Eq.trans ?_ (array2 m ρ c n i j _)
  pointwise

/-- The fourth launch's result array, at an index. -/
theorem array3 (n : Fin 2) (i j : Fin 16) (o : Fin 16) : (show FVec Ideal S2x16x16x16 .f32 from W12 m ρ c (Proc.devRef .tc main_v32)) (ix4 n i j o)
    = maps (truncf .bf16 (m ((c : Thread nD τ).loc main_arg3)) bitsLt_bf16_f32) (packW (m ((c : Thread nD τ).loc main_arg5)))
        (shapeCast S1x256 (m ((c : Thread nD τ).loc main_arg6)) shapeCasts_S256_S1x256) (packU (m ((c : Thread nD τ).loc main_arg7)) (m ((c : Thread nD τ).loc main_arg9)))
        (packB (m ((c : Thread nD τ).loc main_arg8)) (m ((c : Thread nD τ).loc main_arg10))) n i.val j.val o :=
  ((congrFun (W12_arr m ρ c 5) (ix4 n i j o)).trans (Level3.array (V11 m ρ) c n i j o)).trans
    (maps_congr (W11_v31 m ρ c) ((packed_3 m ρ c main_v2 (by decide)).trans (W5_v2 m ρ c)) ((packed_3 m ρ c main_v11 (by decide)).trans (W5_v11 m ρ c)) ((packed_3 m ρ c main_v8 (by decide)).trans (W5_v8 m ρ c))
      ((packed_3 m ρ c main_v12 (by decide)).trans (W5_v12 m ρ c)) n i.val j.val o)

/-- Level 3's scores. -/
theorem score_3 : W15 m ρ c (Proc.devRef .tc main_v34) = val_main_v277 (F := Ideal) (m ((c : Thread nD τ).loc main_arg3)) (m ((c : Thread nD τ).loc main_arg5))
    (m ((c : Thread nD τ).loc main_arg6)) (m ((c : Thread nD τ).loc main_arg7)) (m ((c : Thread nD τ).loc main_arg8)) := by
  rw [W15_of m ρ c main_v34 (by decide +kernel), W14_of m ρ c main_v34 (by decide +kernel)]
  unfold_abbrev_sides
  after_results
  funext y
  obtain ⟨n, a, i, j, rfl⟩ : ∃ (n : Fin 2) (a : Fin 3) (i j : Fin 16), y = ix4 n a i j := ⟨y 0, y 1, y 2, y 3, by funext q; fin_cases q <;> rfl⟩
  refine Eq.trans ?_ (score3 _ _ _ _ _ n a i j).symm
  refine Eq.trans ?_ (maps_score _ _ _ _ _ (m ((c : Thread nD τ).loc main_arg9)) (m ((c : Thread nD τ).loc main_arg10)) n _ _ a)
  refine Eq.trans ?_ (array3 m ρ c n i j _)
  pointwise

/-- Level 3's boxes. -/
theorem box_3 : W15 m ρ c (Proc.devRef .tc main_v36) = val_main_v283 (F := Ideal) (m ((c : Thread nD τ).loc main_arg3)) (m ((c : Thread nD τ).loc main_arg5))
    (m ((c : Thread nD τ).loc main_arg6)) (m ((c : Thread nD τ).loc main_arg9)) (m ((c : Thread nD τ).loc main_arg10)) := by
  rw [W15_of m ρ c main_v36 (by decide +kernel), W14_of m ρ c main_v36 (by decide +kernel)]
  unfold_abbrev_sides
  after_results
  funext y
  obtain ⟨n, a, i, j, rfl⟩ : ∃ (n : Fin 2) (a : Fin 12) (i j : Fin 16), y = ix4 n a i j := ⟨y 0, y 1, y 2, y 3, by funext q; fin_cases q <;> rfl⟩
  refine Eq.trans ?_ (box3 _ _ _ _ _ n a i j).symm
  refine Eq.trans ?_ (maps_box _ _ _ (m ((c : Thread nD τ).loc main_arg7)) (m ((c : Thread nD τ).loc main_arg8)) _ _ n _ _ a)
  refine Eq.trans ?_ (array3 m ρ c n i j _)
  pointwise

/-- The fifth launch's result array, at an index. -/
theorem array4 (n : Fin 2) (i j : Fin 8) (o : Fin 16) : (show FVec Ideal S2x8x8x16 .f32 from W14 m ρ c (Proc.devRef .tc main_v38)) (ix4 n i j o)
    = maps (truncf .bf16 (m ((c : Thread nD τ).loc main_arg4)) bitsLt_bf16_f32) (packW (m ((c : Thread nD τ).loc main_arg5)))
        (shapeCast S1x256 (m ((c : Thread nD τ).loc main_arg6)) shapeCasts_S256_S1x256) (packU (m ((c : Thread nD τ).loc main_arg7)) (m ((c : Thread nD τ).loc main_arg9)))
        (packB (m ((c : Thread nD τ).loc main_arg8)) (m ((c : Thread nD τ).loc main_arg10))) n i.val j.val o :=
  ((congrFun (W14_arr m ρ c 5) (ix4 n i j o)).trans (Level4.array (V13 m ρ) c n i j o)).trans
    (maps_congr (W13_v37 m ρ c) ((packed_4 m ρ c main_v2 (by decide)).trans (W5_v2 m ρ c)) ((packed_4 m ρ c main_v11 (by decide)).trans (W5_v11 m ρ c)) ((packed_4 m ρ c main_v8 (by decide)).trans (W5_v8 m ρ c))
      ((packed_4 m ρ c main_v12 (by decide)).trans (W5_v12 m ρ c)) n i.val j.val o)

/-- Level 4's scores. -/
theorem score_4 : W15 m ρ c (Proc.devRef .tc main_v40) = val_main_v348 (F := Ideal) (m ((c : Thread nD τ).loc main_arg4)) (m ((c : Thread nD τ).loc main_arg5))
    (m ((c : Thread nD τ).loc main_arg6)) (m ((c : Thread nD τ).loc main_arg7)) (m ((c : Thread nD τ).loc main_arg8)) := by
  unfold_abbrev_sides
  after_results
  funext y
  obtain ⟨n, a, i, j, rfl⟩ : ∃ (n : Fin 2) (a : Fin 3) (i j : Fin 8), y = ix4 n a i j := ⟨y 0, y 1, y 2, y 3, by funext q; fin_cases q <;> rfl⟩
  refine Eq.trans ?_ (score4 _ _ _ _ _ n a i j).symm
  refine Eq.trans ?_ (maps_score _ _ _ _ _ (m ((c : Thread nD τ).loc main_arg9)) (m ((c : Thread nD τ).loc main_arg10)) n _ _ a)
  refine Eq.trans ?_ (array4 m ρ c n i j _)
  pointwise

/-- Level 4's boxes. -/
theorem box_4 : W15 m ρ c (Proc.devRef .tc main_v42) = val_main_v354 (F := Ideal) (m ((c : Thread nD τ).loc main_arg4)) (m ((c : Thread nD τ).loc main_arg5))
    (m ((c : Thread nD τ).loc main_arg6)) (m ((c : Thread nD τ).loc main_arg9)) (m ((c : Thread nD τ).loc main_arg10)) := by
  unfold_abbrev_sides
  after_results
  funext y
  obtain ⟨n, a, i, j, rfl⟩ : ∃ (n : Fin 2) (a : Fin 12) (i j : Fin 8), y = ix4 n a i j := ⟨y 0, y 1, y 2, y 3, by funext q; fin_cases q <;> rfl⟩
  refine Eq.trans ?_ (box4 _ _ _ _ _ n a i j).symm
  refine Eq.trans ?_ (maps_box _ _ _ (m ((c : Thread nD τ).loc main_arg7)) (m ((c : Thread nD τ).loc main_arg8)) _ _ n _ _ a)
  refine Eq.trans ?_ (array4 m ρ c n i j _)
  pointwise

end Cert.KernelIdeal.Results

end
-- ==== Proof.lean ====
/- The five claims of `Cert.Claim` (proofs.«01_k».proof.Defs): the three programs' frames, the idealization, and the equality of the
   idealized kernel's ten results with the reference's. The frames come from the generated runs; the results' equality is assembled
   from the kernel's run (`Proof.Run`), its results as the reference's values (`Proof.Results`) and the reference's run. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Results
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's frame: it runs, its arguments end unchanged and every counter ends at zero. -/
theorem frame_kernel : Cert.quiescent_Kernel := fun m g _ => Cert.Kernel.Gen.frame m g

/-- The idealized kernel's frame. -/
theorem frame_ideal : Cert.quiescent_KernelIdeal := fun m g _ => Cert.KernelIdeal.Gen.frame m g

/-- The reference's frame: its run leaves the arguments unchanged, and it declares no semaphore. -/
theorem frame_reference : Cert.quiescent_ReferenceIdeal := fun m g _ =>
  (θ_run Cert.ReferenceIdeal.defs _ _).mono
    (fun r h => ⟨fun c => (h c).2.2.2.2.2.2.2.2.2.2, Idealize.ShloMosaic.sem_eq_zero_of_no_sems (by decide) r.2⟩)
    (Cert.ReferenceIdeal.Value.run (F := Ideal) m g)

/-- A function of five arguments at equal arguments. -/
theorem congr5 {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he; rfl

/-- On equal arguments the idealized kernel and the reference end with equal results: the kernel's five score maps and five box
    maps are the reference's values of the arguments. -/
theorem algebraic : Cert.algebraic_KernelIdeal_ReferenceIdeal := by
  intro m g m' g' _ hagree
  refine ⟨_, _, _, _, _, _, _, _, _, _,
    (θ_run Cert.KernelIdeal.defs _ _).mono (fun r h c =>
      ⟨(h c _ (Cert.KernelIdeal.Gen.mem_uc Cert.KernelIdeal.main_v16 (by decide))).trans (Cert.KernelIdeal.Results.score_0 m g c),
        (h c _ (Cert.KernelIdeal.Gen.mem_uc Cert.KernelIdeal.main_v22 (by decide))).trans (Cert.KernelIdeal.Results.score_1 m g c),
        (h c _ (Cert.KernelIdeal.Gen.mem_uc Cert.KernelIdeal.main_v28 (by decide))).trans (Cert.KernelIdeal.Results.score_2 m g c),
        (h c _ (Cert.KernelIdeal.Gen.mem_uc Cert.KernelIdeal.main_v34 (by decide))).trans (Cert.KernelIdeal.Results.score_3 m g c),
        (h c _ (Cert.KernelIdeal.Gen.mem_uc Cert.KernelIdeal.main_v40 (by decide))).trans (Cert.KernelIdeal.Results.score_4 m g c),
        (h c _ (Cert.KernelIdeal.Gen.mem_uc Cert.KernelIdeal.main_v18 (by decide))).trans (Cert.KernelIdeal.Results.box_0 m g c),
        (h c _ (Cert.KernelIdeal.Gen.mem_uc Cert.KernelIdeal.main_v24 (by decide))).trans (Cert.KernelIdeal.Results.box_1 m g c),
        (h c _ (Cert.KernelIdeal.Gen.mem_uc Cert.KernelIdeal.main_v30 (by decide))).trans (Cert.KernelIdeal.Results.box_2 m g c),
        (h c _ (Cert.KernelIdeal.Gen.mem_uc Cert.KernelIdeal.main_v36 (by decide))).trans (Cert.KernelIdeal.Results.box_3 m g c),
        (h c _ (Cert.KernelIdeal.Gen.mem_uc Cert.KernelIdeal.main_v42 (by decide))).trans (Cert.KernelIdeal.Results.box_4 m g c),
        (h c _ (Cert.KernelIdeal.Gen.mem_uc Cert.KernelIdeal.main_arg0 (by decide))).trans (Cert.KernelIdeal.Gen.W15_main_arg0 m g c),
        (h c _ (Cert.KernelIdeal.Gen.mem_uc Cert.KernelIdeal.main_arg1 (by decide))).trans (Cert.KernelIdeal.Gen.W15_main_arg1 m g c),
        (h c _ (Cert.KernelIdeal.Gen.mem_uc Cert.KernelIdeal.main_arg2 (by decide))).trans (Cert.KernelIdeal.Gen.W15_main_arg2 m g c),
        (h c _ (Cert.KernelIdeal.Gen.mem_uc Cert.KernelIdeal.main_arg3 (by decide))).trans (Cert.KernelIdeal.Gen.W15_main_arg3 m g c),
        (h c _ (Cert.KernelIdeal.Gen.mem_uc Cert.KernelIdeal.main_arg4 (by decide))).trans (Cert.KernelIdeal.Gen.W15_main_arg4 m g c),
        (h c _ (Cert.KernelIdeal.Gen.mem_uc Cert.KernelIdeal.main_arg5 (by decide))).trans (Cert.KernelIdeal.Gen.W15_main_arg5 m g c),
        (h c _ (Cert.KernelIdeal.Gen.mem_uc Cert.KernelIdeal.main_arg6 (by decide))).trans (Cert.KernelIdeal.Gen.W15_main_arg6 m g c),
        (h c _ (Cert.KernelIdeal.Gen.mem_uc Cert.KernelIdeal.main_arg7 (by decide))).trans (Cert.KernelIdeal.Gen.W15_main_arg7 m g c),
        (h c _ (Cert.KernelIdeal.Gen.mem_uc Cert.KernelIdeal.main_arg8 (by decide))).trans (Cert.KernelIdeal.Gen.W15_main_arg8 m g c),
        (h c _ (Cert.KernelIdeal.Gen.mem_uc Cert.KernelIdeal.main_arg9 (by decide))).trans (Cert.KernelIdeal.Gen.W15_main_arg9 m g c),
        (h c _ (Cert.KernelIdeal.Gen.mem_uc Cert.KernelIdeal.main_arg10 (by decide))).trans (Cert.KernelIdeal.Gen.W15_main_arg10 m g c)⟩) (Cert.KernelIdeal.Run.run m g),
    (θ_run Cert.ReferenceIdeal.defs _ _).mono (fun r h c => ?_) (Cert.ReferenceIdeal.Value.run (F := Ideal) m' g')⟩
  obtain ⟨r0, r1, r2, r3, r4, r5, r6, r7, r8, r9, kept⟩ := h c
  obtain ⟨a0, a1, a2, a3, a4, a5, a6, a7, a8, a9, a10⟩ := hagree c
  refine ⟨?_, ?_, ?_, ?_, ?_, ?_, ?_, ?_, ?_, ?_, kept⟩
  · exact r0.trans ((Cert.ReferenceIdeal.Read.val_main_v64_eq _).trans (congr5 _ a0 a5 a6 a7 a8))
  · exact r1.trans ((Cert.ReferenceIdeal.Read.val_main_v135_eq _).trans (congr5 _ a1 a5 a6 a7 a8))
  · exact r2.trans ((Cert.ReferenceIdeal.Read.val_main_v206_eq _).trans (congr5 _ a2 a5 a6 a7 a8))
  · exact r3.trans ((Cert.ReferenceIdeal.Read.val_main_v277_eq _).trans (congr5 _ a3 a5 a6 a7 a8))
  · exact r4.trans ((Cert.ReferenceIdeal.Read.val_main_v348_eq _).trans (congr5 _ a4 a5 a6 a7 a8))
  · exact r5.trans ((Cert.ReferenceIdeal.Read.val_main_v70_eq _).trans (congr5 _ a0 a5 a6 a9 a10))
  · exact r6.trans ((Cert.ReferenceIdeal.Read.val_main_v141_eq _).trans (congr5 _ a1 a5 a6 a9 a10))
  · exact r7.trans ((Cert.ReferenceIdeal.Read.val_main_v212_eq _).trans (congr5 _ a2 a5 a6 a9 a10))
  · exact r8.trans ((Cert.ReferenceIdeal.Read.val_main_v283_eq _).trans (congr5 _ a3 a5 a6 a9 a10))
  · exact r9.trans ((Cert.ReferenceIdeal.Read.val_main_v354_eq _).trans (congr5 _ a4 a5 a6 a9 a10))

/-- All five claims, with the witnesses of the programs' stated facts. -/
theorem claim : Cert.Claim :=
  ⟨Cert.Kernel.Gen.facts, Cert.KernelIdeal.Gen.facts, Cert.ReferenceIdeal.Gen.facts, frame_kernel, frame_ideal, frame_reference, trivial, algebraic⟩

end Cert.Proof

end
